-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 16384]⟩ (Layout.meshBlock [2, 4, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_pre_tame_KernelIdeal (hKernelIdeal := hKernelIdeal) (hReferenceIdeal := hReferenceIdeal) (hPre_tame_KernelIdeal := hPre_tame_KernelIdeal)
-- ==== Pre_tame_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg2 : IVec S256 32) (main_v7 : IVec S_ 1) (main_v13 : IVec S_ 1) (main_v15 : IVec S256 1) (main_c_5 : IVec S_ 32) : IVec S_ 1 :=
  let main_v16 : IVec S256 32 := broadcastInDim S256 ![] bcast_S_S256 main_c_5
  let main_v17 : IVec S256 1 := cmpi .slt main_arg2 main_v16
  let main_v18 : IVec S256 1 := andi main_v15 main_v17
  let main_c_6 : IVec S_ 1 := constantI S_ 1 1#1
  let main_v19 : IVec S_ 1 := (fun x v => Host.reduce IntOp.andi x v reducesTo_S256_S_d0 h_S_) main_v18 main_c_6
  let main_v20 : IVec S_ 1 := andi main_v7 main_v13
  let main_v21 : IVec S_ 1 := andi main_v20 main_v19
  main_v21

def fn {F : FTy → Type} [FloatOps F] (main_arg0 : FVec F S256x512 .bf16) (main_arg1 : FVec F S512x4096 .bf16) (main_arg2 : IVec S256 32) : IVec S_ 1 :=
  let main_v0 : FVec F S256x512 .f32 := (extf .f32 · bitsLt_bf16_f32) main_arg0
  let main_v1 : FVec F S512x4096 .f32 := (extf .f32 · bitsLt_bf16_f32) main_arg1
  let main_cst : FVec F S_ .f32 := constant S_ .f32 0xFF800000#32
  let main_v2 : FVec F S256x512 .f32 := broadcastInDim S256x512 ![] bcast_S_S256x512 main_cst
  let main_v3 : IVec S256x512 1 := cmpf .ogt main_v0 main_v2
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v0 main_v4
  let main_v6 : IVec S256x512 1 := andi main_v3 main_v5
  let main_c : IVec S_ 1 := constantI S_ 1 1#1
  let main_v7 : IVec S_ 1 := (fun x v => Host.reduce IntOp.andi x v reducesTo_S256x512_S_d0_1 h_S_) main_v6 main_c
  let main_cst_1 : FVec F S_ .f32 := constant S_ .f32 0xFF800000#32
  let main_v8 : FVec F S512x4096 .f32 := broadcastInDim S512x4096 ![] bcast_S_S512x4096 main_cst_1
  let main_v9 : IVec S512x4096 1 := cmpf .ogt main_v1 main_v8
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v1 main_v10
  let main_v12 : IVec S512x4096 1 := andi main_v9 main_v11
  let main_c_3 : IVec S_ 1 := constantI S_ 1 1#1
  let main_v13 : IVec S_ 1 := (fun x v => Host.reduce IntOp.andi x v reducesTo_S512x4096_S_d0_1 h_S_) main_v12 main_c_3
  let main_c_4 : IVec S_ 32 := constantI S_ 32 0#32
  let main_v14 : IVec S256 32 := broadcastInDim S256 ![] bcast_S_S256 main_c_4
  let main_v15 : IVec S256 1 := cmpi .sge main_arg2 main_v14
  let main_c_5 : IVec S_ 32 := constantI S_ 32 16384#32
  fn_part1 (F := F) main_arg2 main_v7 main_v13 main_v15 main_c_5
-- ==== Pre_tame_ReferenceIdeal.lean ====
abbrev S256x512 : Shape := ⟨2, ![256, 512]⟩
abbrev S512x16384 : Shape := ⟨2, ![512, 16384]⟩
abbrev S256 : Shape := ⟨1, ![256]⟩
abbrev S_ : Shape := ⟨0, ![]⟩

class Facts : Prop where
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_
  h_S_ : 0 < S_.numel
  bcast_S_S512x16384 : S_.BroadcastsInDim S512x16384 (![] : Fin 0 → Fin S512x16384.rank)
  reducesTo_S512x16384_S_d0_1 : S512x16384.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg2 : IVec S256 32) (main_v7 : IVec S_ 1) (main_v13 : IVec S_ 1) (main_v15 : IVec S256 1) (main_c_5 : IVec S_ 32) : IVec S_ 1 :=
  let main_v16 : IVec S256 32 := broadcastInDim S256 ![] bcast_S_S256 main_c_5
  let main_v17 : IVec S256 1 := cmpi .slt main_arg2 main_v16
  let main_v18 : IVec S256 1 := andi main_v15 main_v17
  let main_c_6 : IVec S_ 1 := constantI S_ 1 1#1
  let main_v19 : IVec S_ 1 := (fun x v => Host.reduce IntOp.andi x v reducesTo_S256_S_d0 h_S_) main_v18 main_c_6
  let main_v20 : IVec S_ 1 := andi main_v7 main_v13
  let main_v21 : IVec S_ 1 := andi main_v20 main_v19
  main_v21

def fn {F : FTy → Type} [FloatOps F] (main_arg0 : FVec F S256x512 .bf16) (main_arg1 : FVec F S512x16384 .bf16) (main_arg2 : IVec S256 32) : IVec S_ 1 :=
  let main_v0 : FVec F S256x512 .f32 := (extf .f32 · bitsLt_bf16_f32) main_arg0
  let main_v1 : FVec F S512x16384 .f32 := (extf .f32 · bitsLt_bf16_f32) main_arg1
  let main_cst : FVec F S_ .f32 := constant S_ .f32 0xFF800000#32
  let main_v2 : FVec F S256x512 .f32 := broadcastInDim S256x512 ![] bcast_S_S256x512 main_cst
  let main_v3 : IVec S256x512 1 := cmpf .ogt main_v0 main_v2
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v0 main_v4
  let main_v6 : IVec S256x512 1 := andi main_v3 main_v5
  let main_c : IVec S_ 1 := constantI S_ 1 1#1
  let main_v7 : IVec S_ 1 := (fun x v => Host.reduce IntOp.andi x v reducesTo_S256x512_S_d0_1 h_S_) main_v6 main_c
  let main_cst_1 : FVec F S_ .f32 := constant S_ .f32 0xFF800000#32
  let main_v8 : FVec F S512x16384 .f32 := broadcastInDim S512x16384 ![] bcast_S_S512x16384 main_cst_1
  let main_v9 : IVec S512x16384 1 := cmpf .ogt main_v1 main_v8
  let main_cst_2 : FVec F S_ .f32 := constant S_ .f32 0x7F800000#32
  let main_v10 : FVec F S512x16384 .f32 := broadcastInDim S512x16384 ![] bcast_S_S512x16384 main_cst_2
  let main_v11 : IVec S512x16384 1 := cmpf .olt main_v1 main_v10
  let main_v12 : IVec S512x16384 1 := andi main_v9 main_v11
  let main_c_3 : IVec S_ 1 := constantI S_ 1 1#1
  let main_v13 : IVec S_ 1 := (fun x v => Host.reduce IntOp.andi x v reducesTo_S512x16384_S_d0_1 h_S_) main_v12 main_c_3
  let main_c_4 : IVec S_ 32 := constantI S_ 32 0#32
  let main_v14 : IVec S256 32 := broadcastInDim S256 ![] bcast_S_S256 main_c_4
  let main_v15 : IVec S256 1 := cmpi .sge main_arg2 main_v14
  let main_c_5 : IVec S_ 32 := constantI S_ 32 16384#32
  fn_part1 (F := F) main_arg2 main_v7 main_v13 main_v15 main_c_5
-- ==== Kernel.lean ====
abbrev S256x512 : Shape := ⟨2, ![256, 512]⟩
abbrev S512x4096 : Shape := ⟨2, ![512, 4096]⟩
abbrev S256 : Shape := ⟨1, ![256]⟩
abbrev S2x256 : Shape := ⟨2, ![2, 256]⟩
abbrev S3x2x256 : Shape := ⟨3, ![3, 2, 256]⟩
abbrev S3 : Shape := ⟨1, ![3]⟩
abbrev S_ : Shape := ⟨0, ![]⟩
abbrev S256x4096 : Shape := ⟨2, ![256, 4096]⟩
abbrev S256x1 : Shape := ⟨2, ![256, 1]⟩
abbrev S256x2 : Shape := ⟨2, ![256, 2]⟩
abbrev S1 : Shape := ⟨1, ![1]⟩
abbrev S1x2x256 : Shape := ⟨3, ![1, 2, 256]⟩
abbrev S1x256 : Shape := ⟨2, ![1, 256]⟩
abbrev S1x1x256 : Shape := ⟨3, ![1, 1, 256]⟩

abbrev nBuf : Space → Nat
  | .hbm => 4
  | .vmem => 6
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256, .i32⟩
  | .hbm, ⟨3, _⟩ => ⟨S256, .f32⟩
  | .local _ .vmem, ⟨0, _⟩ => ⟨S256x512, .bf16⟩
  | .local _ .vmem, ⟨1, _⟩ => ⟨S512x4096, .bf16⟩
  | .local _ .vmem, ⟨2, _⟩ => ⟨S256, .i32⟩
  | .local _ .vmem, ⟨3, _⟩ => ⟨S256, .f32⟩
  | .local _ .vmem, ⟨4, _⟩ => ⟨S2x256, .f32⟩
  | .local _ .vmem, ⟨5, _⟩ => ⟨S3x2x256, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_4 : BitVec 32 := 16#32
  let v11 : BitVec 32 := Scalar.muli v2 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.xori v8 c1_i32_2
  let c1_i32_6 : BitVec 32 := 1#32
  let v15 : BitVec 32 := Scalar.muli v10 c1_i32_6
  let v16 : BitVec 32 := Scalar.addi v14 v15
  v16.toNat
def k0_dev2 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v18 : BitVec 32 := Scalar.muli v2 c16_i32_9
  let v19 : BitVec 32 := Scalar.addi c0_i32_10 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let v17 : BitVec 32 := Scalar.xori v8 c2_i32_7
  let c1_i32_12 : BitVec 32 := 1#32
  let v22 : BitVec 32 := Scalar.muli v17 c1_i32_12
  let v23 : BitVec 32 := Scalar.addi v21 v22
  v23.toNat
def k0_dev3 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v25 : BitVec 32 := Scalar.muli v2 c16_i32_14
  let v26 : BitVec 32 := Scalar.addi c0_i32_15 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_16 : BitVec 32 := 4#32
  let v27 : BitVec 32 := Scalar.muli v5 c4_i32_16
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 32 := Scalar.xori v8 c3_i32
  let c1_i32_17 : BitVec 32 := 1#32
  let v29 : BitVec 32 := Scalar.muli v24 c1_i32_17
  let v30 : BitVec 32 := Scalar.addi v28 v29
  v30.toNat
def k0_dev4 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v62 : BitVec 32 := Scalar.muli v2 c16_i32_32
  let v63 : BitVec 32 := Scalar.addi c0_i32_33 v62
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v64 : BitVec 32 := Scalar.muli v5 c4_i32_34
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_28 : BitVec 32 := 3#32
  let v61 : BitVec 32 := Scalar.xori v8 c3_i32_28
  let c1_i32_35 : BitVec 32 := 1#32
  let v66 : BitVec 32 := Scalar.muli v61 c1_i32_35
  let v67 : BitVec 32 := Scalar.addi v65 v66
  v67.toNat
def k0_dev5 (d0 : Dev nD) : Nat :=
  let c0_i32_43 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_42 : BitVec 32 := 16#32
  let v75 : BitVec 32 := Scalar.muli v2 c16_i32_42
  let v76 : BitVec 32 := Scalar.addi c0_i32_43 v75
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_44 : BitVec 32 := 4#32
  let v77 : BitVec 32 := Scalar.muli v5 c4_i32_44
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_38 : BitVec 32 := 2#32
  let v74 : BitVec 32 := Scalar.xori v8 c2_i32_38
  let c1_i32_45 : BitVec 32 := 1#32
  let v79 : BitVec 32 := Scalar.muli v74 c1_i32_45
  let v80 : BitVec 32 := Scalar.addi v78 v79
  v80.toNat
def k0_dev6 (d0 : Dev nD) : Nat :=
  let c0_i32_53 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_52 : BitVec 32 := 16#32
  let v88 : BitVec 32 := Scalar.muli v2 c16_i32_52
  let v89 : BitVec 32 := Scalar.addi c0_i32_53 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_54 : BitVec 32 := 4#32
  let v90 : BitVec 32 := Scalar.muli v5 c4_i32_54
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v87 : BitVec 32 := Scalar.xori v8 c1_i32_48
  let c1_i32_55 : BitVec 32 := 1#32
  let v92 : BitVec 32 := Scalar.muli v87 c1_i32_55
  let v93 : BitVec 32 := Scalar.addi v91 v92
  v93.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256 : Shape := ⟨1, ![256]⟩
abbrev S256x16384 : Shape := ⟨2, ![256, 16384]⟩
abbrev S_ : Shape := ⟨0, ![]⟩
abbrev S256x1 : Shape := ⟨2, ![256, 1]⟩
abbrev S256x2 : Shape := ⟨2, ![256, 2]⟩

abbrev nBuf : Space → Nat
  | .hbm => 38
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x16384, .bf16⟩
  | .hbm, ⟨2, _⟩ => ⟨S256, .i32⟩
  | .hbm, ⟨3, _⟩ => ⟨S256x512, .f32⟩
  | .hbm, ⟨4, _⟩ => ⟨S512x16384, .f32⟩
  | .hbm, ⟨5, _⟩ => ⟨S256x16384, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x16384, .f32⟩
  | .hbm, ⟨10, _⟩ => ⟨S256x16384, .f32⟩
  | .hbm, ⟨11, _⟩ => ⟨S256x16384, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256, .f32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256x1, .i32⟩
  | .hbm, ⟨34, _⟩ => ⟨S256x1, .i32⟩
  | .hbm, ⟨35, _⟩ => ⟨S256x2, .i32⟩
  | .hbm, ⟨36, _⟩ => ⟨S256, .f32⟩
  | .hbm, ⟨37, _⟩ => ⟨S256, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Protocol.lean ====
/-
The exchange, written down for one device `c` of the 32: who signals whom, who copies to whom, on which semaphore, and what each
landing hands over.

A device's three PEERS are the devices that differ from it in the `z` coordinate only: `peer k c`, k = 0, 1, 2, is the device with
`z` exclusive-or `k + 1`. Each `peer k` is its own inverse.

* The runtime's barrier semaphore of `c`: one unit from each of the three peers. The unit of `peer k c` hands `c` the landing slot
  `k` of that peer.
* The receive semaphore `k` of `c`: the whole credit of one copy, from `peer k c`; it hands `c` its own slot `k` back, now holding
  that peer's two rows of partial sums.
* The send semaphore `k` of `c`: the same credit, from `c`'s own copy to `peer k c`; it hands back the share of the two rows that
  the copy borrowed. The rows are read by three copies and by the kernel itself at once, so they are held in four shares.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.ValueLayout
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra: the pipeline's own rounds beside the exchange's (duties numbered by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The peers -/

set_option backward.proofsInPublic true in
/-- The device whose `z` coordinate is `c`'s exclusive-or `k + 1`. -/
def peer (k : Fin 3) (c : Dev nD) : Dev nD := ⟨c.val ^^^ (k.val + 1), by revert k c; decide +kernel⟩

/-- Each peer map is its own inverse. -/
theorem peer_peer (k : Fin 3) (c : Dev nD) : peer k (peer k c) = c := by revert k c; decide +kernel

/-- The kernel's device numbers: the three signals go to the peers 0, 1, 2, the three copies to the peers 2, 1, 0. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 2 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 0 c := by revert c; decide +kernel

/-- A peer map as a permutation of the devices. -/
def around (k : Fin 3) : Dev nD ≃ Dev nD := ⟨peer k, peer k, peer_peer k, peer_peer k⟩

/-! ## The buffers, the slots and the semaphores -/

/-- The two rows of partial sums, and the three landing slots' buffer. -/
abbrev pM : Memref sig .tc .vmem S2x256 .f32 := Memref.whole cc0_scratch0
abbrev rM : Memref sig .tc .vmem S3x2x256 .f32 := Memref.whole cc0_scratch1

theorem slot_inb (k : Fin 3) : ∀ a, (![k.val, 0, 0] : Fin 3 → Nat) a + S1x2x256.size a ≤ S3x2x256.size a := by
  revert k; decide

/-- Landing slot `k`, as the kernel slices and squeezes it. -/
abbrev slotM (k : Fin 3) : Memref sig .tc .vmem S2x256 .f32 :=
  (rM.slice (Rect.unit (s := S3x2x256) ![k.val, 0, 0] S1x2x256.size (slot_inb k)) (fun _ => rfl)).squeeze S2x256 squeezes_S1x2x256_S2x256

/-- The runtime's barrier semaphore of collective id 0. -/
abbrev barS : Sem sig := (SemArray.scalar (sig.barrier 0 rfl) : Sems sig S_).sem
set_option backward.proofsInPublic true in
/-- The send semaphore and the receive semaphore of slot `k`. -/
def sendD (k : Fin 3) : DmaSem sig := ⟨4 + k.val, by revert k; decide⟩
set_option backward.proofsInPublic true in
def recvD (k : Fin 3) : DmaSem sig := ⟨7 + k.val, by revert k; decide⟩

theorem send0 : ((cc0_scratch2.slice (Rect.unit (s := S3) ![0] S1.size inb_S3_S1_0)).squeeze S_ squeezes_S1_S_).sem = sendD 0 := rfl
theorem send1 : ((cc0_scratch2.slice (Rect.unit (s := S3) ![1] S1.size inb_S3_S1_1)).squeeze S_ squeezes_S1_S_).sem = sendD 1 := rfl
theorem send2 : ((cc0_scratch2.slice (Rect.unit (s := S3) ![2] S1.size inb_S3_S1_2)).squeeze S_ squeezes_S1_S_).sem = sendD 2 := rfl
theorem recv0 : ((cc0_scratch3.slice (Rect.unit (s := S3) ![0] S1.size inb_S3_S1_0)).squeeze S_ squeezes_S1_S_).sem = recvD 0 := rfl
theorem recv1 : ((cc0_scratch3.slice (Rect.unit (s := S3) ![1] S1.size inb_S3_S1_1)).squeeze S_ squeezes_S1_S_).sem = recvD 1 := rfl
theorem recv2 : ((cc0_scratch3.slice (Rect.unit (s := S3) ![2] S1.size inb_S3_S1_2)).squeeze S_ squeezes_S1_S_).sem = recvD 2 := rfl

abbrev barCell (c : Dev nD) : GSem nD τ sig := ((c : Thread nD τ), .reg barS)
abbrev sendCell (c : Dev nD) (k : Fin 3) : GSem nD τ sig := ((c : Thread nD τ), .dma (sendD k))
abbrev recvCell (c : Dev nD) (k : Fin 3) : GSem nD τ sig := ((c : Thread nD τ), .dma (recvD k))

/-- The kernel's own (scoped) semaphores: three send, three receive; -/
abbrev osem : Fin 6 → SemLoc sig := fun i => .dma (if h : i.val < 3 then sendD ⟨i.val, h⟩ else recvD ⟨i.val - 3, by omega⟩)
/-- all seven, the barrier first, then the sends, then the receives. -/
abbrev csem : Fin 7 → SemLoc sig := fun
  | 0 => .reg barS | 1 => .dma (sendD 0) | 2 => .dma (sendD 1) | 3 => .dma (sendD 2)
  | 4 => .dma (recvD 0) | 5 => .dma (recvD 1) | 6 => .dma (recvD 2)
abbrev kcell (ck : Dev nD × Fin 7) : GSem nD τ sig := ((ck.1 : Thread nD τ), csem ck.2)
/-- Which of the seven are slot `k`'s. -/
abbrev sendI (k : Fin 3) : Fin 7 := ⟨1 + k.val, by omega⟩
abbrev recvI (k : Fin 3) : Fin 7 := ⟨4 + k.val, by omega⟩

/-- The credit of one copy of the two rows. -/
abbrev N : ℕ := (pM : Memref sig .tc .vmem S2x256 .f32).view.dmaCredit
theorem N_pos : 0 < N := View.dmaCredit_pos _ (by decide)
theorem slot_credit (k : Fin 3) : (slotM k).view.dmaCredit = N := rfl

/-! ## Contents -/

/-- What the pipeline stages on device `c`: `x`, its block of `W`, the labels. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def lstg (c : Dev nD) : (cc0_stg2_0 : Ref sig .tc).ty.Contents (Elt F) :=
  (win0_2.blk (0 : Fin 1)).view.read (Elt F) ((s₀ m ρ).mem ((c : Thread nD τ).loc main_arg2))

/-- Device `c`'s `z` coordinate, the word the kernel computes from its id. -/
abbrev zW (c : Dev nD) : BitVec 32 := Scalar.remsi (Scalar.divsi (Dev.word c) 1#32) 4#32

/-- The two rows device `c` computes: its sum of exponentials and its label's exponential, per row of `x`. -/
def rows (c : Dev nD) : (cc0_scratch0 : Ref sig .tc).ty.Contents (Elt F) := k0_pay1 (zW c) (xstg m ρ c) (wstg m ρ c) (lstg m ρ c)

/-- The landing buffer once the three copies have landed: slot `k` holds the rows of `peer k c`. -/
def landed (c : Dev nD) : (cc0_scratch1 : Ref sig .tc).ty.Contents (Elt F) :=
  fun (j : (⟨3, ![3, 2, 256]⟩ : Shape).Idx) => rows m ρ (peer (j 0) c) (ix2 (n0 := 2) (n1 := 256) (j 1) (j 2))

omit [FloatOps F] in
/-- Element `(a, b)` of slot `k` is element `(k, a, b)` of the buffer. -/
theorem slot_emb (k : Fin 3) (a : Fin 2) (b : Fin 256) :
    (slotM k).view.emb (ix2 a b) = (ix3 k a b : (⟨3, ![3, 2, 256]⟩ : Shape).Idx) := by
  show (((View.whole cc0_scratch1).slice (Rect.unit (s := S3x2x256) ![k.val, 0, 0] S1x2x256.size (slot_inb k))).reshape S2x256 _).emb (ix2 a b) = _
  rw [View.emb_reshape]
  show (Rect.unit (s := S3x2x256) ![k.val, 0, 0] S1x2x256.size (slot_inb k)).emb (Shape.reshapeEquiv _ (ix2 a b)) = _
  rw [reshapeEquiv_ix2_1ab]
  funext i
  apply Fin.ext
  fin_cases i <;> simp [Rect.unit, Rect.emb]

/-- A copy of `peer k c`'s rows over slot `k` of `c` leaves there what `landed c` holds there. -/
theorem landed_slot (k : Fin 3) (c : Dev nD) (fd : (cc0_scratch1 : Ref sig .tc).ty.Contents (Elt F)) :
    ∀ i ∈ (slotM k).view.set, (slotM k).view.write (Elt F) fd ((pM : Memref sig .tc .vmem S2x256 .f32).view.read (Elt F) (rows m ρ (peer k c))) Finset.univ i = landed m ρ c i := by
  intro i hi
  obtain ⟨y, -, rfl⟩ := Finset.mem_map.mp hi
  rw [View.write_emb_of_mem _ _ (Finset.mem_univ _)]
  obtain ⟨a, b, rfl⟩ : ∃ (a : Fin 2) (b : Fin 256), y = ix2 a b := ⟨y 0, y 1, by funext i; fin_cases i <;> rfl⟩
  rw [slot_emb]
  rfl

/-- Slot `k`'s elements of the landing buffer; -/
abbrev slotSet (k : Fin 3) : Finset S3x2x256.Idx := (slotM k).view.set
theorem slotSet_eq (k : Fin 3) : slotSet k = (Rect.unit (s := S3x2x256) ![k.val, 0, 0] S1x2x256.size (slot_inb k)).set :=
  (View.set_reshape _ _).trans (View.set_slice_whole _ _)
/-- they are disjoint, and cover it. -/
theorem slots_disjoint (k k' : Fin 3) (h : k ≠ k') : Disjoint (slotSet k) (slotSet k') := by
  rw [slotSet_eq, slotSet_eq]
  exact Ring.lead_disjoint (s := S3x2x256) (0 : Fin 3) 1 (fun k : Fin 3 => ![k.val, 0, 0]) S1x2x256.size slot_inb (fun b => (Nat.one_mul _).symm) rfl k k' h
theorem slots_cover : Finset.univ.biUnion slotSet = Finset.univ := by
  rw [funext slotSet_eq]
  exact Ring.lead_cover (s := S3x2x256) (0 : Fin 3) 1 (fun k : Fin 3 => ![k.val, 0, 0]) S1x2x256.size slot_inb (fun b => (Nat.one_mul _).symm)
    (by decide) rfl (by decide) rfl

/-- The share of the rows that the copy to `peer k c` borrows; the kernel keeps the left half for its own loads. -/
abbrev lent (k : Fin 3) : PosShare TreeShare := Ring.shares3 (PosShare.right fullShare) k

/-- Slot `k` of device `c` held whole, at contents `f`. -/
def slotPts (c : Dev nD) (k : Fin 3) (f : (cc0_scratch1 : Ref sig .tc).ty.Contents (Elt F)) : sProp 𝕄 :=
  (slotM k).view.loc (c : Thread nD τ) ↦[(slotM k).view.set]{fullShare} f
/-- Device `c`'s rows held at a share. -/
def rowPts (q : PosShare TreeShare) (c : Dev nD) : sProp 𝕄 :=
  (pM : Memref sig .tc .vmem S2x256 .f32).view.loc (c : Thread nD τ) ↦[(pM : Memref sig .tc .vmem S2x256 .f32).view.set]{q} rows m ρ c

omit [FloatOps F] in
instance slotPts_storable (c : Dev nD) (k : Fin 3) (f) : BI.Storable (upEmb : UEmb _ 𝕄) (slotPts (F := F) c k f) := by unfold slotPts; infer_instance
instance rowPts_storable (q) (c : Dev nD) : BI.Storable (upEmb : UEmb _ 𝕄) (rowPts (F := F) m ρ q c) := by unfold rowPts; infer_instance

/-! ## The schedule -/

/-- What the signal of `peer k c` hands `c`: that device's landing slot `k`, and that it has reached round 0 of the slot's receive cell. -/
def barPay (c : Dev nD) (k : Fin 3) : sProp 𝕄 := iprop((∃ f, slotPts (peer k c) k f) ∗ reached ER (recvCell (peer k c) k) 0)
def recvPay (c : Dev nD) (k : Fin 3) : sProp 𝕄 := slotPts c k (landed m ρ c)
def sendPay (c : Dev nD) (k : Fin 3) : sProp 𝕄 := rowPts m ρ (lent k) c

/-- What a copy's landing on a DMA semaphore hands over. -/
def xferPay (c : Dev nD) (q : DmaSem sig) : sProp 𝕄 :=
  if q = sendD 0 then sendPay m ρ c 0 else if q = sendD 1 then sendPay m ρ c 1 else if q = sendD 2 then sendPay m ρ c 2
  else if q = recvD 0 then recvPay m ρ c 0 else if q = recvD 1 then recvPay m ρ c 1 else if q = recvD 2 then recvPay m ρ c 2 else iprop(emp)

abbrev IsBar (g : GSem nD τ sig) : Prop := g.1.2 = .tc ∧ g.2 = .reg barS
abbrev IsXfer (g : GSem nD τ sig) : Prop := g.1.2 = .tc ∧ ∃ k : Fin 3, g.2 = .dma (sendD k) ∨ g.2 = .dma (recvD k)

/-- One round, round 0: a barrier cell has one duty of one unit from each of its three peers; a send or a receive cell the single
    duty of a copy's credit. -/
def rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    match g.2 with
    | .reg _ => barPay g.1.1 d
    | .dma q => xferPay m ρ g.1.1 q
  amount_pos g _ _ _ := by
    by_cases h : g.2 = .reg barS
    · rw [if_pos h]; exact Nat.one_pos
    · rw [if_neg h]; exact N_pos

instance rd_payload_storable (g : GSem nD τ sig) (r : ℕ) (d : Fin 3) : BI.Storable (upEmb : UEmb _ 𝕄) ((rd (F := F) m ρ).payload g r d) := by
  obtain ⟨t, s⟩ := g
  cases s with
  | reg s => show BI.Storable upEmb (barPay t.1 d); unfold barPay; infer_instance
  | dma q =>
    show BI.Storable upEmb (xferPay m ρ t.1 q)
    unfold xferPay sendPay recvPay
    (repeat' split) <;> infer_instance

section Sched
variable (c : Dev nD)

theorem dma_ne_bar (q : DmaSem sig) : (SemLoc.dma q : SemLoc sig) ≠ .reg barS := fun h => by cases h
theorem not_bar_dma (q : DmaSem sig) : ¬ IsBar ((c : Thread nD τ), .dma q) := fun h => dma_ne_bar q h.2

theorem duties_bar : (rd (F := F) m ρ).duties (barCell c) 0 = Finset.univ := by dsimp only [rd]; exact if_pos ⟨rfl, rfl, rfl⟩
theorem duties_send (k : Fin 3) : (rd (F := F) m ρ).duties (sendCell c k) 0 = {0} := by
  dsimp only [rd]; rw [if_neg (fun h => not_bar_dma c _ h.2)]; exact if_pos ⟨rfl, rfl, k, .inl rfl⟩
theorem duties_recv (k : Fin 3) : (rd (F := F) m ρ).duties (recvCell c k) 0 = {0} := by
  dsimp only [rd]; rw [if_neg (fun h => not_bar_dma c _ h.2)]; exact if_pos ⟨rfl, rfl, k, .inr rfl⟩
theorem duties_later (g : GSem nD τ sig) : ∀ r, 1 ≤ r → (rd (F := F) m ρ).duties g r = ∅ :=
  fun r hr => by dsimp only [rd]; rw [if_neg fun h => by omega, if_neg fun h => by omega]

theorem amount_bar (d : Fin 3) : (rd (F := F) m ρ).amount (barCell c) 0 d = 1 := by dsimp only [rd]; exact if_pos rfl
theorem amount_dma (q : DmaSem sig) (d : Fin 3) : (rd (F := F) m ρ).amount ((c : Thread nD τ), .dma q) 0 d = N := by
  dsimp only [rd]; exact if_neg (dma_ne_bar q)

theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (rd (F := F) m ρ).expect (sendCell c k) 0 = N := by
  unfold Schedule.expect Schedule.amountOf; rw [duties_send, Finset.sum_singleton, amount_dma]
theorem expect_recv (k : Fin 3) : (rd (F := F) m ρ).expect (recvCell c k) 0 = N := by
  unfold Schedule.expect Schedule.amountOf; rw [duties_recv, Finset.sum_singleton, amount_dma]

theorem payload_bar (k : Fin 3) : (rd (F := F) m ρ).payload (barCell c) 0 k = barPay c k := rfl
theorem payload_send (k d : Fin 3) : (rd (F := F) m ρ).payload (sendCell c k) 0 d = sendPay m ρ c k := by
  show xferPay m ρ c (sendD k) = _
  fin_cases k <;> rfl
theorem payload_recv (k d : Fin 3) : (rd (F := F) m ρ).payload (recvCell c k) 0 d = recvPay m ρ c k := by
  show xferPay m ρ c (recvD k) = _
  fin_cases k <;> rfl

/-- The whole barrier round hands over the three peers' slots. -/
theorem rest_bar : bigSep ((rd (F := F) m ρ).duties (barCell c) 0 \ ∅) (fun d => (rd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send (k : Fin 3) : bigSep ((rd (F := F) m ρ).duties (sendCell c k) 0 \ ∅) (fun d => (rd (F := F) m ρ).payload (sendCell c k) 0 d) = sendPay m ρ c k := by
  rw [Finset.sdiff_empty, duties_send, bigSep_singleton, payload_send]
theorem rest_recv (k : Fin 3) : bigSep ((rd (F := F) m ρ).duties (recvCell c k) 0 \ ∅) (fun d => (rd (F := F) m ρ).payload (recvCell c k) 0 d) = recvPay m ρ c k := by
  rw [Finset.sdiff_empty, duties_recv, bigSep_singleton, payload_recv]

end Sched

/-! ## What each device owes at launch, and the levels of the cells -/

/-- Device `c` owes each peer `k` one barrier unit and the credit of its receive cell `k`, summed so that the kernel pays them
    off from the outside in: the units of peers 0, 1, 2, then the credits of peers 2, 1, 0. -/
def O₅ (c : Dev nD) : CellTallies nD τ sig Unit := tallyAt (recvCell (peer 0 c) 0) () N
def O₄ (c : Dev nD) : CellTallies nD τ sig Unit := O₅ c + tallyAt (recvCell (peer 1 c) 1) () N
def O₃ (c : Dev nD) : CellTallies nD τ sig Unit := O₄ c + tallyAt (recvCell (peer 2 c) 2) () N
def O₂ (c : Dev nD) : CellTallies nD τ sig Unit := O₃ c + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅
/-- Barrier cells at 1, receive cells at 2, everything else (staging, send) at 0. -/
def lvS : SemLoc sig → ℕ
  | .reg _ => 1
  | .dma q => if 7 ≤ q.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (k : Fin 3) (u : Unit) : lv (recvCell c k) u = 2 := by
  show lvS (.dma (recvD k)) = 2; revert k; decide

/-- Receive credits are owed on receive cells only. -/
theorem O₃_pos {c : Dev nD} {g : GSem nD τ sig} {u : Unit} (h : 0 < O₃ c g u) : ∃ k : Fin 3, g = recvCell (peer k c) k := by
  unfold O₃ O₄ O₅ at h
  simp only [Pi.add_apply, Finsupp.add_apply, tallyAt_apply] at h
  by_contra hn
  rw [not_exists] at hn
  rw [if_neg (fun h' => hn 0 h'.1), if_neg (fun h' => hn 1 h'.1), if_neg (fun h' => hn 2 h'.1)] at h
  exact Nat.lt_irrefl 0 h

theorem O₀_pos {c : Dev nD} {g : GSem nD τ sig} {u : Unit} (h : 0 < O₀ c g u) :
    (∃ k : Fin 3, g = recvCell (peer k c) k) ∨ ∃ k : Fin 3, g = barCell (peer k c) := by
  by_cases h3 : 0 < O₃ c g u
  · exact .inl (O₃_pos h3)
  · unfold O₀ O₁ O₂ at h
    simp only [Pi.add_apply, Finsupp.add_apply, tallyAt_apply] at h
    right
    by_contra hn
    rw [not_exists] at hn
    rw [if_neg (fun h' => hn 2 h'.1), if_neg (fun h' => hn 1 h'.1), if_neg (fun h' => hn 0 h'.1)] at h
    exact h3 h

omit [FloatOps F] in
/-- A wait on a staging semaphore is below everything the device may owe. -/
theorem mayWait_stage (c : Dev nD) (q : DmaSem sig) (hq : q.val < 7) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; show (if 7 ≤ q.val then 2 else 0) ≤ 0; rw [if_neg (by omega)])
      (fun g u hg => by
        rcases O₀_pos hg with ⟨k, rfl⟩ | ⟨k, rfl⟩
        · rw [lv_recv]; decide
        · rw [lv_bar]; decide)
  · rw [MayWait_zero]; iintro -; iempintro

omit [FloatOps F] in
/-- At its barrier wait a device owes receive credits only, which stand above its barrier cell. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨k, rfl⟩ := O₃_pos hg; rw [L_tc]; exact Finset.mem_singleton_self _)
    (fun p hp => by rw [Finset.mem_singleton.mp hp]; exact Nat.le_refl 1)
    (fun g u hg => by obtain ⟨k, rfl⟩ := O₃_pos hg; rw [lv_recv]; decide)

/-! ## The result and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Row `r` of the two rows, and row `r` of slot `k` of the landing buffer, as the kernel loads them. -/
abbrev row0 (f : (cc0_scratch0 : Ref sig .tc).ty.Contents (Elt F)) : Vec F S1x256 .f32 :=
  (pM : Memref sig .tc .vmem S2x256 .f32).view.readAt (Elt F) (Rect.unit (s := S2x256) ![0, 0] S1x256.size inb_S2x256_S1x256_0_0).toLoadRect f
abbrev row1 (f : (cc0_scratch0 : Ref sig .tc).ty.Contents (Elt F)) : Vec F S1x256 .f32 :=
  (pM : Memref sig .tc .vmem S2x256 .f32).view.readAt (Elt F) (Rect.unit (s := S2x256) ![1, 0] S1x256.size inb_S2x256_S1x256_1_0).toLoadRect f
abbrev got00 (f : (cc0_scratch1 : Ref sig .tc).ty.Contents (Elt F)) : Vec F S1x1x256 .f32 :=
  (rM : Memref sig .tc .vmem S3x2x256 .f32).view.readAt (Elt F) (Rect.unit (s := S3x2x256) ![0, 0, 0] S1x1x256.size inb_S3x2x256_S1x1x256_0_0_0).toLoadRect f
abbrev got10 (f : (cc0_scratch1 : Ref sig .tc).ty.Contents (Elt F)) : Vec F S1x1x256 .f32 :=
  (rM : Memref sig .tc .vmem S3x2x256 .f32).view.readAt (Elt F) (Rect.unit (s := S3x2x256) ![1, 0, 0] S1x1x256.size inb_S3x2x256_S1x1x256_1_0_0).toLoadRect f
abbrev got20 (f : (cc0_scratch1 : Ref sig .tc).ty.Contents (Elt F)) : Vec F S1x1x256 .f32 :=
  (rM : Memref sig .tc .vmem S3x2x256 .f32).view.readAt (Elt F) (Rect.unit (s := S3x2x256) ![2, 0, 0] S1x1x256.size inb_S3x2x256_S1x1x256_2_0_0).toLoadRect f
abbrev got01 (f : (cc0_scratch1 : Ref sig .tc).ty.Contents (Elt F)) : Vec F S1x1x256 .f32 :=
  (rM : Memref sig .tc .vmem S3x2x256 .f32).view.readAt (Elt F) (Rect.unit (s := S3x2x256) ![0, 1, 0] S1x1x256.size inb_S3x2x256_S1x1x256_0_1_0).toLoadRect f
abbrev got11 (f : (cc0_scratch1 : Ref sig .tc).ty.Contents (Elt F)) : Vec F S1x1x256 .f32 :=
  (rM : Memref sig .tc .vmem S3x2x256 .f32).view.readAt (Elt F) (Rect.unit (s := S3x2x256) ![1, 1, 0] S1x1x256.size inb_S3x2x256_S1x1x256_1_1_0).toLoadRect f
abbrev got21 (f : (cc0_scratch1 : Ref sig .tc).ty.Contents (Elt F)) : Vec F S1x1x256 .f32 :=
  (rM : Memref sig .tc .vmem S3x2x256 .f32).view.readAt (Elt F) (Rect.unit (s := S3x2x256) ![2, 1, 0] S1x1x256.size inb_S3x2x256_S1x1x256_2_1_0).toLoadRect f

/-- The kernel's result on device `c`, from its own rows and the three it received. -/
def outAt (c : Dev nD) : (cc0_stg3_0 : Ref sig .tc).ty.Contents (Elt F) :=
  k0_pay2 (row0 (rows m ρ c)) (got00 (landed m ρ c)) (got10 (landed m ρ c)) (got20 (landed m ρ c))
    (row1 (rows m ρ c)) (got01 (landed m ρ c)) (got11 (landed m ρ c)) (got21 (landed m ρ c))

/-- The cells' invariants device `c`'s body opens, under the names `K` the launch allocated them at: its own seven, and of each
    peer the barrier cell (its signal) and the receive cell (its copy). -/
def invs (K : Dev nD × Fin 7 → ℕ) (c : Dev nD) : sProp 𝕄 :=
  iprop(cellInv ER (rd m ρ) (K (c, 0)) (barCell c)
    ∗ cellInv ER (rd m ρ) (K (c, sendI 0)) (sendCell c 0) ∗ cellInv ER (rd m ρ) (K (c, sendI 1)) (sendCell c 1) ∗ cellInv ER (rd m ρ) (K (c, sendI 2)) (sendCell c 2)
    ∗ cellInv ER (rd m ρ) (K (c, recvI 0)) (recvCell c 0) ∗ cellInv ER (rd m ρ) (K (c, recvI 1)) (recvCell c 1) ∗ cellInv ER (rd m ρ) (K (c, recvI 2)) (recvCell c 2)
    ∗ cellInv ER (rd m ρ) (K (peer 0 c, 0)) (barCell (peer 0 c)) ∗ cellInv ER (rd m ρ) (K (peer 1 c, 0)) (barCell (peer 1 c)) ∗ cellInv ER (rd m ρ) (K (peer 2 c, 0)) (barCell (peer 2 c))
    ∗ cellInv ER (rd m ρ) (K (peer 0 c, recvI 0)) (recvCell (peer 0 c) 0) ∗ cellInv ER (rd m ρ) (K (peer 1 c, recvI 1)) (recvCell (peer 1 c) 1)
    ∗ cellInv ER (rd m ρ) (K (peer 2 c, recvI 2)) (recvCell (peer 2 c) 2))

instance invs_persistent (K : Dev nD × Fin 7 → ℕ) (c : Dev nD) : BI.Persistent (invs m ρ K c) := by unfold invs; infer_instance

/-- The marks that round 0 is reached: of the cells `c` pays into, and of its own receive cells. -/
def marks (c : Dev nD) : sProp 𝕄 :=
  iprop((reached ER (barCell (peer 0 c)) 0 ∗ reached ER (barCell (peer 1 c)) 0 ∗ reached ER (barCell (peer 2 c)) 0)
    ∗ (reached ER (recvCell (peer 0 c) 0) 0 ∗ reached ER (recvCell (peer 1 c) 1) 0 ∗ reached ER (recvCell (peer 2 c) 2) 0)
    ∗ (reached ER (sendCell c 0) 0 ∗ reached ER (sendCell c 1) 0 ∗ reached ER (sendCell c 2) 0)
    ∗ (reached ER (recvCell c 0) 0 ∗ reached ER (recvCell c 1) 0 ∗ reached ER (recvCell c 2) 0))

omit [FloatOps F] in
instance marks_persistent (c : Dev nD) : BI.Persistent (marks (F := F) c) := by unfold marks; infer_instance

/-- The tokens of the nine duties `c` pays. -/
def payToks (c : Dev nD) : sProp 𝕄 :=
  iprop((dutyTok ER (barCell (peer 0 c)) 0 (0 : Fin 3) ∗ dutyTok ER (barCell (peer 1 c)) 0 (1 : Fin 3) ∗ dutyTok ER (barCell (peer 2 c)) 0 (2 : Fin 3))
    ∗ (dutyTok ER (recvCell (peer 0 c) 0) 0 (0 : Fin 3) ∗ dutyTok ER (recvCell (peer 1 c) 1) 0 (0 : Fin 3) ∗ dutyTok ER (recvCell (peer 2 c) 2) 0 (0 : Fin 3))
    ∗ (dutyTok ER (sendCell c 0) 0 (0 : Fin 3) ∗ dutyTok ER (sendCell c 1) 0 (0 : Fin 3) ∗ dutyTok ER (sendCell c 2) 0 (0 : Fin 3)))

/-- Device `c`'s positions at its own seven cells. -/
def positions (c : Dev nD) : sProp 𝕄 :=
  iprop(atPos ER (barCell c) 0 (∅ : Finset (Fin 3)) 0
    ∗ (atPos ER (sendCell c 0) 0 (∅ : Finset (Fin 3)) 0 ∗ atPos ER (sendCell c 1) 0 (∅ : Finset (Fin 3)) 0 ∗ atPos ER (sendCell c 2) 0 (∅ : Finset (Fin 3)) 0)
    ∗ (atPos ER (recvCell c 0) 0 (∅ : Finset (Fin 3)) 0 ∗ atPos ER (recvCell c 1) 0 (∅ : Finset (Fin 3)) 0 ∗ atPos ER (recvCell c 2) 0 (∅ : Finset (Fin 3)) 0))

/-- What the exchange gives device `c` to start from. -/
def ghost (K : Dev nD × Fin 7 → ℕ) (c : Dev nD) : sProp 𝕄 := iprop(invs m ρ K c ∗ positions c ∗ marks c ∗ payToks c)

/-- … at some names, with the credit of its barrier's three units and of its three receives, and the level facts. -/
def start (c : Dev nD) : sProp 𝕄 :=
  iprop((∃ K, ghost m ρ K c) ∗ cred (tallyAt (barCell c) () 3)
    ∗ (cred (tallyAt (recvCell c 0) () N) ∗ cred (tallyAt (recvCell c 1) () N) ∗ cred (tallyAt (recvCell c 2) () N)) ∗ levAts L lv)

/-- Before the kernel: that, and the two scratch buffers at any contents. -/
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: the scratch buffers, and its seven cells closed at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ semVal (barCell c) 0 ∗ (semVal (sendCell c 0) 0 ∗ semVal (sendCell c 1) 0 ∗ semVal (sendCell c 2) 0)
    ∗ (semVal (recvCell c 0) 0 ∗ semVal (recvCell c 1) 0 ∗ semVal (recvCell c 2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => lstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Exchange

end
-- ==== Proof.Body.lean ====
/-
The kernel's body, executed symbolically on one device from what the exchange gives it: every effect in program order, by the rule
of that effect. The result buffer ends at `outAt`, the seven semaphore cells closed at zero.
-/
module

public import proofs.«01_k».proof.Proof.Protocol
public import proofs.«01_k».proof.Proof.Gen.KernelIdeal.Points

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The rows in four shares, the landing buffer in three slots -/

/-- The rows held whole are the kernel's own half and the three shares the copies borrow. -/
theorem rows_split (c : Dev nD) :
    (((c : Thread nD τ).loc cc0_scratch0) ↦{fullShare} rows m ρ c : sProp 𝕄)
      ⊣⊢ iprop((((c : Thread nD τ).loc cc0_scratch0) ↦{PosShare.left fullShare} rows m ρ c) ∗ sendPay m ρ c 0 ∗ sendPay m ρ c 1 ∗ sendPay m ρ c 2) := by
  unfold sendPay rowPts
  rw [show (pM : Memref sig .tc .vmem S2x256 .f32).view.set = Finset.univ from View.set_whole _]
  refine ⟨?_, ?_⟩
  · iintro H
    ihave H' := (pointsTo_share (I := Finset.univ) (f := rows m ρ c) (PosShare.mem_left_op_right fullShare)).1 $$ H
    icases H' with ⟨HL, HR⟩
    isplitl [HL]; · iexact HL
    iapply (Ring.pointsTo_thirds (I := Finset.univ) (PosShare.right fullShare) (rows m ρ c)).1
    iexact HR
  · iintro ⟨HL, HR⟩
    iapply (pointsTo_share (I := Finset.univ) (f := rows m ρ c) (PosShare.mem_left_op_right fullShare)).2
    isplitl [HL]; · iexact HL
    iapply (Ring.pointsTo_thirds (I := Finset.univ) (PosShare.right fullShare) (rows m ρ c)).2
    iexact HR

omit [FloatOps F] in
/-- The landing buffer held whole is its three slots. -/
theorem slots_split (c : Dev nD) (f : (cc0_scratch1 : Ref sig .tc).ty.Contents (Elt F)) :
    (((c : Thread nD τ).loc cc0_scratch1) ↦{fullShare} f : sProp 𝕄) = iprop(slotPts c 0 f ∗ slotPts c 1 f ∗ slotPts c 2 f) := by
  have h := Ring.pointsTo_blocks (Ix := Unit) (Name := ℕ) (U := UU) (Lvl := ℕ) (Val := Elt F) (ℓ := (c : Thread nD τ).loc cc0_scratch1)
    (q := fullShare) slotSet slots_disjoint slots_cover f
  rw [h, bigSep_three]
  rfl

/-! ## The body -/

section Body

variable (K : Dev nD × Fin 7 → ℕ)

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl

omit [FloatOps F] in
theorem read_x (f : (cc0_stg0_0 : Ref sig .tc).ty.Contents (Elt F)) :
    (Memref.whole cc0_stg0_0 : Memref sig .tc .vmem S256x512 .bf16).view.readAt (Elt F) (Rect.unit (s := S256x512) ![0, 0] S256x512.size inb_S256x512_S256x512_0_0).toLoadRect f = f :=
  Memref.readAt_unit_zero (Elt F) cc0_stg0_0 hz2 _ f
omit [FloatOps F] in
theorem read_w (f : (cc0_stg1_0 : Ref sig .tc).ty.Contents (Elt F)) :
    (Memref.whole cc0_stg1_0 : Memref sig .tc .vmem S512x4096 .bf16).view.readAt (Elt F) (Rect.unit (s := S512x4096) ![0, 0] S512x4096.size inb_S512x4096_S512x4096_0_0).toLoadRect f = f :=
  Memref.readAt_unit_zero (Elt F) cc0_stg1_0 hz2 _ f
omit [FloatOps F] in
theorem read_l (f : (cc0_stg2_0 : Ref sig .tc).ty.Contents (Elt F)) :
    (Memref.whole cc0_stg2_0 : Memref sig .tc .vmem S256 .i32).view.readAt (Elt F) (Rect.unit (s := S256) ![0] S256.size inb_S256_S256_0).toLoadRect f = f :=
  Memref.readAt_unit_zero (Elt F) cc0_stg2_0 hz1 _ f
omit [FloatOps F] in
theorem write_rows (f w : (cc0_scratch0 : Ref sig .tc).ty.Contents (Elt F)) :
    ((pM : Memref sig .tc .vmem S2x256 .f32).access (Rect.unit (s := S2x256) ![0, 0] S2x256.size inb_S2x256_S2x256_0_0) : View sig .tc _ _ _).write (Elt F) f w Finset.univ = w :=
  Memref.write_access_unit_zero_univ (Elt F) cc0_scratch0 hz2 _ f w
omit [FloatOps F] in
theorem write_out (f w : (cc0_stg3_0 : Ref sig .tc).ty.Contents (Elt F)) :
    ((Memref.whole cc0_stg3_0 : Memref sig .tc .vmem S256 .f32).access (Rect.unit (s := S256) ![0] S256.size inb_S256_S256_0) : View sig .tc _ _ _).write (Elt F) f w Finset.univ = w :=
  Memref.write_access_unit_zero_univ (Elt F) cc0_stg3_0 hz1 _ f w

/-- The copy of `c`'s rows to slot `k` of `n = peer k c`: it borrows its share of the rows, and the landing pays the peer's
    receive cell with the slot at what `landed` says. -/
theorem wp_send_slot (k : Fin 3) (c n : Dev nD) (hn : n = peer k c) {hsc : (slotM k : Memref sig (Dev.tc n : Thread nD τ).2.kind .vmem S2x256 .f32).view.ref.isScScratch = false}
    {hsrc : (pM : Memref sig .tc .vmem S2x256 .f32).view.WordExact} {hdst : (slotM k).view.WordExact}
    {hsem : DmaTarget.Typed .vmem (.dma (recvD k)) (.remote (Dev.tc n : Thread nD τ) (slotM k) (.dma (sendD k)) hsc)}
    {α : Type} {Q : α → sProp 𝕄} {kk : PUnit → Prog (TpuEff nD τ sig (Elt F) Λ₀ .tc) α}
    (fn : (cc0_scratch1 : Ref sig .tc).ty.Contents (Elt F)) (O : CellTallies nD τ sig Unit) (W : Waits sig Unit) :
    iprop(cellInv ER (rd m ρ) (K (c, sendI k)) (sendCell c k) ∗ cellInv ER (rd m ρ) (K (peer k c, recvI k)) (recvCell (peer k c) k)
        ∗ sendPay m ρ c k ∗ slotPts (peer k c) k fn
        ∗ owes (c : Thread nD τ) (O + tallyAt (recvCell (peer k c) k) () N) W
        ∗ dutyTok ER (sendCell c k) 0 (0 : Fin 3) ∗ reached ER (sendCell c k) 0
        ∗ dutyTok ER (recvCell (peer k c) k) 0 (0 : Fin 3) ∗ reached ER (recvCell (peer k c) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma pM (.remote (Dev.tc n : Thread nD τ) (slotM k) (.dma (sendD k)) hsc) (.dma (recvD k)) hsrc hdst hsem) kk) Q) := by
  subst hn
  have hp₁ : rowPts m ρ (lent k) c ⊢ (rd m ρ).payload (sendCell c k) 0 (0 : Fin 3) := by rw [payload_send]; exact BI.Entails.refl _
  have hp₂ : ((slotM k).view.loc (peer k c : Thread nD τ) ↦[(slotM k).view.set]{fullShare}
      ((slotM k).view.write (Elt F) fn ((pM : Memref sig .tc .vmem S2x256 .f32).view.read (Elt F) (rows m ρ c)) Finset.univ))
      ⊢ ((rd m ρ).payload (recvCell (peer k c) k) 0 (0 : Fin 3) : sProp 𝕄) := by
    rw [payload_recv]; unfold recvPay slotPts
    refine Entails.of_eq (pointsTo_congr fun i hi => ?_)
    have h := landed_slot m ρ k (peer k c) fn i hi
    rw [peer_peer] at h
    exact h
  have hN : (slotM k).view.amount (.dma (recvD k)) = N := rfl
  have hr : τ.routes (c : Thread nD τ) (peer k c : Thread nD τ) = true := by routes
  exact Rounds.wp_send_pointsTo 𝒱₀ ER (rd m ρ) (c : Thread nD τ) none (κ₁ := K (c, sendI k)) (κ₂ := K (peer k c, recvI k))
    (c' := (peer k c : Thread nD τ)) (src := pM) (dst := slotM k) (q := lent k) (fs := rows m ρ c)
    (r₁ := 0) (r₂ := 0) (d₁ := 0) (d₂ := 0) (fd := fn)
    (by rw [duties_send]; exact Finset.mem_singleton_self _) (by rw [duties_recv]; exact Finset.mem_singleton_self _)
    () () N hN (amount_dma m ρ c (sendD k) 0) (amount_dma m ρ (peer k c) (recvD k) 0) O rfl (W := W) hp₁ hp₂ hr

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: the exchange's resources, the scratch buffers, and the four staging buffers. -/
def bodyPre (c : Dev nD) : sProp 𝕄 :=
  iprop((ghost m ρ K c ∗ cred (tallyAt (barCell c) () 3)
      ∗ (cred (tallyAt (recvCell c 0) () N) ∗ cred (tallyAt (recvCell c 1) () N) ∗ cred (tallyAt (recvCell c 2) () N)) ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- What it ends with: the scratch buffers and the closed cells, nothing owed, the inputs as staged, the result at `outAt`. -/
def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (lstg m ρ c)
    ∗ stg c cc0_stg3_0 (outAt m ρ c))

set_option maxHeartbeats 4000000 in
/-- The body, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs positions marks payToks
  iintro ⟨⟨⟨⟨⟨#HIb, #HIs0, #HIs1, #HIs2, #HIr0, #HIr1, #HIr2, #HIpb0, #HIpb1, #HIpb2, #HIpr0, #HIpr1, #HIpr2⟩,
      ⟨Hab, ⟨Has0, Has1, Has2⟩, Har0, Har1, Har2⟩,
      ⟨⟨#Hmb0, #Hmb1, #Hmb2⟩, ⟨#Hmp0, #Hmp1, #Hmp2⟩, ⟨#Hms0, #Hms1, #Hms2⟩, #Hmr0, #Hmr1, #Hmr2⟩,
      ⟨Htb0, Htb1, Htb2⟩, ⟨Htr0, Htr1, Htr2⟩, Hts0, Hts1, Hts2⟩,
      Hcb, ⟨Hcr0, Hcr1, Hcr2⟩, #Hlev, ⟨%fr, Hrows⟩, ⟨%fl, Hland⟩⟩,
    Ho, ⟨%d0, %g0, %hg0, Hx⟩, ⟨%d1, %g1, %hg1, Hw⟩, ⟨%d2, %g2, %hg2, Hl⟩, ⟨%d3, %g3, %hg3, Hout⟩⟩, Hk⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  have hl : g2 = lstg m ρ c := by rw [hg2]; unfold Dat.before; rw [if_pos (fetch0_2 t₀)]; rfl
  subst hx hw hl
  unfold Dat.owesAt Pipeline.owesWithin
  icases Ho with ⟨%W, %hW, HO⟩
  rw [show (dats m ρ 0 c).owed t₀.castSucc = O₀ c from rfl]
  simp only [dev1_eq c, dev2_eq c, dev3_eq c]
  ihave Hland := (Entails.of_eq (slots_split (F := F) c fl)) $$ Hland
  icases Hland with ⟨Hl0, Hl1, Hl2⟩
  -- the three SIGNALS, each with the landing slot the signalled peer will write
  iapply (Rounds.wp_signal 𝒱₀ ER (rd m ρ) (c : Thread nD τ) none (dst := (peer 0 c : Thread nD τ)) (κ := K (peer 0 c, 0))
      (d := 0) (by rw [duties_bar]; exact Finset.mem_univ _) ((amount_bar m ρ (peer 0 c) 0).trans (by decide)) () (O₁ c) rfl)
    $$ [HO Htb0 Hl0]
  · isplitr; · iexact HIpb0
    isplitl [HO]; · iexact HO
    isplitl [Htb0]; · iexact Htb0
    isplitl [Hl0]
    · rw [payload_bar]; unfold barPay; rw [peer_peer]
      isplitl [Hl0]; · iexists fl; iexact Hl0
      iexact Hmr0
    iexact Hmb0
  iintro HO
  iapply (Rounds.wp_signal 𝒱₀ ER (rd m ρ) (c : Thread nD τ) none (dst := (peer 1 c : Thread nD τ)) (κ := K (peer 1 c, 0))
      (d := 1) (by rw [duties_bar]; exact Finset.mem_univ _) ((amount_bar m ρ (peer 1 c) 1).trans (by decide)) () (O₂ c) rfl)
    $$ [HO Htb1 Hl1]
  · isplitr; · iexact HIpb1
    isplitl [HO]; · iexact HO
    isplitl [Htb1]; · iexact Htb1
    isplitl [Hl1]
    · rw [payload_bar]; unfold barPay; rw [peer_peer]
      isplitl [Hl1]; · iexists fl; iexact Hl1
      iexact Hmr1
    iexact Hmb1
  iintro HO
  iapply (Rounds.wp_signal 𝒱₀ ER (rd m ρ) (c : Thread nD τ) none (dst := (peer 2 c : Thread nD τ)) (κ := K (peer 2 c, 0))
      (d := 2) (by rw [duties_bar]; exact Finset.mem_univ _) ((amount_bar m ρ (peer 2 c) 2).trans (by decide)) () (O₃ c) rfl)
    $$ [HO Htb2 Hl2]
  · isplitr; · iexact HIpb2
    isplitl [HO]; · iexact HO
    isplitl [Htb2]; · iexact Htb2
    isplitl [Hl2]
    · rw [payload_bar]; unfold barPay; rw [peer_peer]
      isplitl [Hl2]; · iexists fl; iexact Hl2
      iexact Hmr2
    iexact Hmb2
  iintro HO
  -- the local work: the two rows
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hw; iintro Hw
  rw [read_w]
  iapply (wp_load 𝒱₀ (c : Thread nD τ) none Set.univ (m := Memref.whole cc0_stg2_0) (Finset.subset_univ _)) $$ Hl; iintro Hl
  rw [read_l]
  iapply (wp_load 𝒱₀ (c : Thread nD τ) none Set.univ (m := pM) (Finset.subset_univ _)) $$ Hrows; iintro Hrows
  iapply (wp_store 𝒱₀ (c : Thread nD τ) none Set.univ (m := pM) (r := Rect.unit (s := S2x256) ![0, 0] S2x256.size inb_S2x256_S2x256_0_0) (Mk := Finset.univ) (Finset.subset_univ _)) $$ Hrows; iintro Hrows
  rw [write_rows]
  rw [show k0_pay1 (Scalar.remsi (Scalar.divsi (Dev.word c) 1#32) 4#32) (xstg m ρ c) (wstg m ρ c) (lstg m ρ c) = rows m ρ c from rfl]
  -- the BARRIER wait for 3: the peers' landing slots come with it
  iapply (Rounds.wp_wait_rest_token 𝒱₀ ER (rd m ρ) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [Hcb HO Hab]
  · isplitr; · iexact HIb
    isplitl [Hcb]; · iexact Hcb
    isplitl [HO]; · iexact HO
    isplitr; · iapply (mayWait_bar (F := F) c); iexact Hlev
    iexact Hab
  iintro ⟨HO, Hab, -, Hpay⟩
  ihave Hp := (Entails.of_eq (rest_bar m ρ c)) $$ Hpay
  unfold barPay
  icases Hp with ⟨⟨⟨%f0, Hn0⟩, -⟩, ⟨⟨%f1, Hn1⟩, -⟩, ⟨%f2, Hn2⟩, -⟩
  -- the three COPIES, each on its share of the rows
  ihave Hr := (rows_split m ρ c).1 $$ Hrows
  icases Hr with ⟨Hrows, Hq0, Hq1, Hq2⟩
  iapply (wp_send_slot m ρ K 2 c _ (dev4_eq c) f2 (O₄ c) (insert (SemLoc.reg barS, ()) W)) $$ [Hq2 Hn2 HO Hts2 Htr2]
  · isplitr; · iexact HIs2
    isplitr; · iexact HIpr2
    isplitl [Hq2]; · iexact Hq2
    isplitl [Hn2]; · iexact Hn2
    isplitl [HO]; · iexact HO
    isplitl [Hts2]; · iexact Hts2
    isplitr; · iexact Hms2
    isplitl [Htr2]; · iexact Htr2
    iexact Hmp2
  iintro ⟨Hcs2, HO⟩
  iapply (wp_send_slot m ρ K 1 c _ (dev5_eq c) f1 (O₅ c) (insert (SemLoc.reg barS, ()) W)) $$ [Hq1 Hn1 HO Hts1 Htr1]
  · isplitr; · iexact HIs1
    isplitr; · iexact HIpr1
    isplitl [Hq1]; · iexact Hq1
    isplitl [Hn1]; · iexact Hn1
    isplitl [HO]; · iexact HO
    isplitl [Hts1]; · iexact Hts1
    isplitr; · iexact Hms1
    isplitl [Htr1]; · iexact Htr1
    iexact Hmp1
  iintro ⟨Hcs1, HO⟩
  ihave HO := (show (owes (c : Thread nD τ) (O₅ c) (insert (SemLoc.reg barS, ()) W) : sProp 𝕄)
      ⊢ owes (c : Thread nD τ) (0 + tallyAt (recvCell (peer 0 c) 0) () N) (insert (SemLoc.reg barS, ()) W) from by rw [zero_add]; exact BI.Entails.refl _) $$ HO
  iapply (wp_send_slot m ρ K 0 c _ (dev6_eq c) f0 0 (insert (SemLoc.reg barS, ()) W)) $$ [Hq0 Hn0 HO Hts0 Htr0]
  · isplitr; · iexact HIs0
    isplitr; · iexact HIpr0
    isplitl [Hq0]; · iexact Hq0
    isplitl [Hn0]; · iexact Hn0
    isplitl [HO]; · iexact HO
    isplitl [Hts0]; · iexact Hts0
    isplitr; · iexact Hms0
    isplitl [Htr0]; · iexact Htr0
    iexact Hmp0
  iintro ⟨Hcs0, HO⟩
  -- the three RECEIVE waits: its own slots back, holding the peers' rows
  iapply (Rounds.wp_wait_rest_token 𝒱₀ ER (rd m ρ) (c : Thread nD τ) none (sm := .dma (recvD 2)) (κ := K (c, recvI 2))
      (wpE_waitDma2_eq 𝒱₀ (c : Thread nD τ) none Set.univ) (Set.mem_univ _) () (O := 0) (R := 0) (m := 0) (T := ∅)
      (by rw [Nat.zero_add, expect_recv])) $$ [Hcr2 HO Har2]
  · isplitr; · iexact HIr2
    isplitl [Hcr2]; · iexact Hcr2
    isplitl [HO]; · iexact HO
    isplitr; · rw [MayWait_zero]; iempintro
    iexact Har2
  iintro ⟨HO, Har2, -, Hpay⟩
  ihave Hl2 := (Entails.of_eq (rest_recv m ρ c 2)) $$ Hpay
  iapply (Rounds.wp_wait_rest_token 𝒱₀ ER (rd m ρ) (c : Thread nD τ) none (sm := .dma (recvD 1)) (κ := K (c, recvI 1))
      (wpE_waitDma2_eq 𝒱₀ (c : Thread nD τ) none Set.univ) (Set.mem_univ _) () (O := 0) (R := 0) (m := 0) (T := ∅)
      (by rw [Nat.zero_add, expect_recv])) $$ [Hcr1 HO Har1]
  · isplitr; · iexact HIr1
    isplitl [Hcr1]; · iexact Hcr1
    isplitl [HO]; · iexact HO
    isplitr; · rw [MayWait_zero]; iempintro
    iexact Har1
  iintro ⟨HO, Har1, -, Hpay⟩
  ihave Hl1 := (Entails.of_eq (rest_recv m ρ c 1)) $$ Hpay
  iapply (Rounds.wp_wait_rest_token 𝒱₀ ER (rd m ρ) (c : Thread nD τ) none (sm := .dma (recvD 0)) (κ := K (c, recvI 0))
      (wpE_waitDma2_eq 𝒱₀ (c : Thread nD τ) none Set.univ) (Set.mem_univ _) () (O := 0) (R := 0) (m := 0) (T := ∅)
      (by rw [Nat.zero_add, expect_recv])) $$ [Hcr0 HO Har0]
  · isplitr; · iexact HIr0
    isplitl [Hcr0]; · iexact Hcr0
    isplitl [HO]; · iexact HO
    isplitr; · rw [MayWait_zero]; iempintro
    iexact Har0
  iintro ⟨HO, Har0, -, Hpay⟩
  ihave Hl0 := (Entails.of_eq (rest_recv m ρ c 0)) $$ Hpay
  unfold recvPay
  ihave Hland := (Entails.of_eq (slots_split (F := F) c (landed m ρ c)).symm) $$ [Hl0 Hl1 Hl2]
  · isplitl [Hl0]; · iexact Hl0
    isplitl [Hl1] <;> iassumption
  -- the loads and the store of the result
  iapply (wp_load 𝒱₀ (c : Thread nD τ) none Set.univ (m := pM) (Finset.subset_univ _)) $$ Hrows; iintro Hrows
  iapply (wp_load 𝒱₀ (c : Thread nD τ) none Set.univ (m := rM) (Finset.subset_univ _)) $$ Hland; iintro Hland
  iapply (wp_load 𝒱₀ (c : Thread nD τ) none Set.univ (m := rM) (Finset.subset_univ _)) $$ Hland; iintro Hland
  iapply (wp_load 𝒱₀ (c : Thread nD τ) none Set.univ (m := rM) (Finset.subset_univ _)) $$ Hland; iintro Hland
  iapply (wp_load 𝒱₀ (c : Thread nD τ) none Set.univ (m := pM) (Finset.subset_univ _)) $$ Hrows; iintro Hrows
  iapply (wp_load 𝒱₀ (c : Thread nD τ) none Set.univ (m := rM) (Finset.subset_univ _)) $$ Hland; iintro Hland
  iapply (wp_load 𝒱₀ (c : Thread nD τ) none Set.univ (m := rM) (Finset.subset_univ _)) $$ Hland; iintro Hland
  iapply (wp_load 𝒱₀ (c : Thread nD τ) none Set.univ (m := rM) (Finset.subset_univ _)) $$ Hland; iintro Hland
  iapply (wp_load 𝒱₀ (c : Thread nD τ) none Set.univ (m := Memref.whole cc0_stg3_0) (Finset.subset_univ _)) $$ Hout; iintro Hout
  iapply (wp_store 𝒱₀ (c : Thread nD τ) none Set.univ (m := Memref.whole cc0_stg3_0) (r := Rect.unit (s := S256) ![0] S256.size inb_S256_S256_0) (Mk := Finset.univ) (Finset.subset_univ _)) $$ Hout; iintro Hout
  rw [write_out]
  -- the three SEND waits: the borrowed shares of the rows back
  iapply (Rounds.wp_wait_rest_token 𝒱₀ ER (rd m ρ) (c : Thread nD τ) none (sm := .dma (sendD 2)) (κ := K (c, sendI 2))
      (wpE_waitDma2_eq 𝒱₀ (c : Thread nD τ) none Set.univ) (Set.mem_univ _) () (O := 0) (R := 0) (m := 0) (T := ∅)
      (by rw [Nat.zero_add, expect_send])) $$ [Hcs2 HO Has2]
  · isplitr; · iexact HIs2
    isplitl [Hcs2]; · iexact Hcs2
    isplitl [HO]; · iexact HO
    isplitr; · rw [MayWait_zero]; iempintro
    iexact Has2
  iintro ⟨HO, Has2, -, Hpay⟩
  ihave Hq2 := (Entails.of_eq (rest_send m ρ c 2)) $$ Hpay
  iapply (Rounds.wp_wait_rest_token 𝒱₀ ER (rd m ρ) (c : Thread nD τ) none (sm := .dma (sendD 1)) (κ := K (c, sendI 1))
      (wpE_waitDma2_eq 𝒱₀ (c : Thread nD τ) none Set.univ) (Set.mem_univ _) () (O := 0) (R := 0) (m := 0) (T := ∅)
      (by rw [Nat.zero_add, expect_send])) $$ [Hcs1 HO Has1]
  · isplitr; · iexact HIs1
    isplitl [Hcs1]; · iexact Hcs1
    isplitl [HO]; · iexact HO
    isplitr; · rw [MayWait_zero]; iempintro
    iexact Has1
  iintro ⟨HO, Has1, -, Hpay⟩
  ihave Hq1 := (Entails.of_eq (rest_send m ρ c 1)) $$ Hpay
  iapply (Rounds.wp_wait_rest_token 𝒱₀ ER (rd m ρ) (c : Thread nD τ) none (sm := .dma (sendD 0)) (κ := K (c, sendI 0))
      (wpE_waitDma2_eq 𝒱₀ (c : Thread nD τ) none Set.univ) (Set.mem_univ _) () (O := 0) (R := 0) (m := 0) (T := ∅)
      (by rw [Nat.zero_add, expect_send])) $$ [Hcs0 HO Has0]
  · isplitr; · iexact HIs0
    isplitl [Hcs0]; · iexact Hcs0
    isplitl [HO]; · iexact HO
    isplitr; · rw [MayWait_zero]; iempintro
    iexact Has0
  iintro ⟨HO, Has0, -, Hpay⟩
  ihave Hq0 := (Entails.of_eq (rest_send m ρ c 0)) $$ Hpay
  ihave Hrows := (rows_split m ρ c).2 $$ [Hrows Hq0 Hq1 Hq2]
  · isplitl [Hrows]; · iexact Hrows
    isplitl [Hq0]; · iexact Hq0
    isplitl [Hq1] <;> iassumption
  -- all seven cells close: their counters at zero are the core's again
  imod (Rounds.cell_close ER (rd m ρ) (Set.mem_univ (K (c, 0))) (fun h => h) (R := 0 + 1) (duties_later m ρ (barCell c))) $$ [Hab] with Hzb
  · isplitr; · iexact HIb
    iexact Hab
  imod (Rounds.cell_close ER (rd m ρ) (Set.mem_univ (K (c, sendI 0))) (fun h => h) (R := 0 + 1) (duties_later m ρ (sendCell c 0))) $$ [Has0] with Hzs0
  · isplitr; · iexact HIs0
    iexact Has0
  imod (Rounds.cell_close ER (rd m ρ) (Set.mem_univ (K (c, sendI 1))) (fun h => h) (R := 0 + 1) (duties_later m ρ (sendCell c 1))) $$ [Has1] with Hzs1
  · isplitr; · iexact HIs1
    iexact Has1
  imod (Rounds.cell_close ER (rd m ρ) (Set.mem_univ (K (c, sendI 2))) (fun h => h) (R := 0 + 1) (duties_later m ρ (sendCell c 2))) $$ [Has2] with Hzs2
  · isplitr; · iexact HIs2
    iexact Has2
  imod (Rounds.cell_close ER (rd m ρ) (Set.mem_univ (K (c, recvI 0))) (fun h => h) (R := 0 + 1) (duties_later m ρ (recvCell c 0))) $$ [Har0] with Hzr0
  · isplitr; · iexact HIr0
    iexact Har0
  imod (Rounds.cell_close ER (rd m ρ) (Set.mem_univ (K (c, recvI 1))) (fun h => h) (R := 0 + 1) (duties_later m ρ (recvCell c 1))) $$ [Har1] with Hzr1
  · isplitr; · iexact HIr1
    iexact Har1
  imod (Rounds.cell_close ER (rd m ρ) (Set.mem_univ (K (c, recvI 2))) (fun h => h) (R := 0 + 1) (duties_later m ρ (recvCell c 2))) $$ [Har2] with Hzr2
  · isplitr; · iexact HIr2
    iexact Har2
  rw [wp_ret]; imodintro
  iapply Hk
  unfold bodyPost Φ₁ Dat.owesAt Pipeline.owesWithin
  rw [show (dats m ρ 0 c).owed t₀.succ = 0 from rfl]
  isplitl [Hrows Hland Hzb Hzs0 Hzs1 Hzs2 Hzr0 Hzr1 Hzr2]
  · isplitl [Hrows]; · iexists _; iexact Hrows
    isplitl [Hland]; · iexists _; iexact Hland
    isplitl [Hzb]; · iexact Hzb
    isplitl [Hzs0 Hzs1 Hzs2]
    · isplitl [Hzs0]; · iexact Hzs0
      isplitl [Hzs1] <;> iassumption
    isplitl [Hzr0]; · iexact Hzr0
    isplitl [Hzr1] <;> iassumption
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  isplitl [Hl]
  · iexists _; isplitr; · (ipureintro; rfl)
    iexact Hl
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxHeartbeats 1000000 in
set_option maxRecDepth 4000 in
/-- The pipeline's obligation on the body, on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, H1, H2, H3⟩, Hs0, Hs1⟩, Ho, Hx, Hw, Hl, Hout⟩
  iapply (sound_body m ρ K c fun _ => bodyPost m ρ c)
  unfold bodyPre
  isplitr []
  · isplitl [Hg H1 H2 H3 Hs0 Hs1]
    · isplitl [Hg]; · iexact Hg
      isplitl [H1]; · iexact H1
      isplitl [H2]; · iexact H2
      isplitl [H3]; · iexact H3
      isplitl [Hs0] <;> iassumption
    isplitl [Ho]; · iexact Ho
    isplitl [Hx]; · iexact Hx
    isplitl [Hw]; · iexact Hw
    isplitl [Hl] <;> iassumption
  · iintro H; iexact H

end Body

end Cert.Exchange

end
-- ==== Proof.Run.lean ====
/-
The launch: the exchange's ghost state made for all 32 devices at once and dealt out, the credits each device starts with, and the
run of the whole program with the contents of every array at its end.
-/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  have h1 : c = c' := congrArg (fun x : GSem nD τ sig => x.1.1) h
  have h2 : k = k' := csem_injective (congrArg (fun x : GSem nD τ sig => x.2) h)
  subst h1; subst h2; rfl
def exCells : Finset (GSem nD τ sig) := Finset.univ.map ⟨kcell, kcell_injective⟩

/-- Which cell and which duty of it the nine duty tokens of a device's own cells are: three of the barrier, one of each receive
    cell, one of each send cell. -/
abbrev tokI : Fin 9 → Fin 7 × Fin 3 := fun
  | 0 => (0, 0) | 1 => (0, 1) | 2 => (0, 2) | 3 => (4, 0) | 4 => (5, 0) | 5 => (6, 0) | 6 => (1, 0) | 7 => (2, 0) | 8 => (3, 0)
theorem tokI_injective : Function.Injective tokI := by decide
abbrev tokOf (cj : Dev nD × Fin 9) : GSem nD τ sig × ℕ × Fin 3 := (kcell (cj.1, (tokI cj.2).1), 0, (tokI cj.2).2)
theorem tokOf_injective : Function.Injective (tokOf : Dev nD × Fin 9 → GSem nD τ sig × ℕ × Fin 3) := by
  rintro ⟨c, j⟩ ⟨c', j'⟩ h
  have h1 := kcell_injective (congrArg (fun x : GSem nD τ sig × ℕ × Fin 3 => x.1) h)
  have h2 : (tokI j).2 = (tokI j').2 := congrArg (fun x : GSem nD τ sig × ℕ × Fin 3 => x.2.2) h
  have h3 : c = c' := congrArg Prod.fst h1
  have h4 : j = j' := tokI_injective (Prod.ext (congrArg Prod.snd h1) h2)
  subst h3; subst h4; rfl
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((dutyTok ER (barCell c) 0 (0 : Fin 3) ∗ dutyTok ER (barCell c) 0 (1 : Fin 3) ∗ dutyTok ER (barCell c) 0 (2 : Fin 3))
    ∗ (dutyTok ER (recvCell c 0) 0 (0 : Fin 3) ∗ dutyTok ER (recvCell c 1) 0 (0 : Fin 3) ∗ dutyTok ER (recvCell c 2) 0 (0 : Fin 3))
    ∗ (dutyTok ER (sendCell c 0) 0 (0 : Fin 3) ∗ dutyTok ER (sendCell c 1) 0 (0 : Fin 3) ∗ dutyTok ER (sendCell c 2) 0 (0 : Fin 3)))

/-- What the launch deals device `c`; -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0)) ∗ toks c)

/-- and what the step over all devices makes of it. -/
def G' (c : Dev nD) : sProp 𝕄 := iprop(∃ K, ghost m ρ K c)

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem toks_of_nine (c : Dev nD) :
    (bigSep Finset.univ fun j : Fin 9 => (dutyTok ER (tokOf (c, j)).1 (tokOf (c, j)).2.1 (tokOf (c, j)).2.2 : sProp 𝕄)) ⊢ toks c := by
  rw [bigSep_nine]
  unfold toks
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 7 => Φ (kcell (c, k)) := by
    unfold exCells; rw [bigSep_map, bigSep_univ_prod]; rfl
  have hT : bigSep exToks (fun x => (dutyTok ER x.1 x.2.1 x.2.2 : sProp 𝕄)) ⊢ bigSep Finset.univ fun c : Dev nD => toks c := by
    unfold exToks; rw [bigSep_map, bigSep_univ_prod]
    exact bigSep_mono fun c _ => toks_of_nine c
  iintro HX
  imod (Rounds.fund ER (rd m ρ) exCells exToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_seven]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, and every cell's round 0 reached. -/
def records (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (rd m ρ) (K ck) (kcell ck) : sProp 𝕄)) ⊢ cellInv ER (rd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem invs_intro (K : Dev nD × Fin 7 → ℕ) (c : Dev nD) : records m ρ K ⊢ invs m ρ K c := by
  unfold records invs
  iintro ⟨#HI, -⟩
  isplitr; · iapply (inv_at m ρ K (c, 0)); iexact HI
  isplitr; · iapply (inv_at m ρ K (c, 1)); iexact HI
  isplitr; · iapply (inv_at m ρ K (c, 2)); iexact HI
  isplitr; · iapply (inv_at m ρ K (c, 3)); iexact HI
  isplitr; · iapply (inv_at m ρ K (c, 4)); iexact HI
  isplitr; · iapply (inv_at m ρ K (c, 5)); iexact HI
  isplitr; · iapply (inv_at m ρ K (c, 6)); iexact HI
  isplitr; · iapply (inv_at m ρ K (peer 0 c, 0)); iexact HI
  isplitr; · iapply (inv_at m ρ K (peer 1 c, 0)); iexact HI
  isplitr; · iapply (inv_at m ρ K (peer 2 c, 0)); iexact HI
  isplitr; · iapply (inv_at m ρ K (peer 0 c, 4)); iexact HI
  isplitr; · iapply (inv_at m ρ K (peer 1 c, 5)); iexact HI
  iapply (inv_at m ρ K (peer 2 c, 6)); iexact HI

theorem marks_intro (K : Dev nD × Fin 7 → ℕ) (c : Dev nD) : records m ρ K ⊢ marks c := by
  unfold records marks
  iintro ⟨-, #HR⟩
  isplitr
  · isplitr; · iapply (reached_at (F := F) (peer 0 c, 0)); iexact HR
    isplitr; · iapply (reached_at (F := F) (peer 1 c, 0)); iexact HR
    iapply (reached_at (F := F) (peer 2 c, 0)); iexact HR
  isplitr
  · isplitr; · iapply (reached_at (F := F) (peer 0 c, 4)); iexact HR
    isplitr; · iapply (reached_at (F := F) (peer 1 c, 5)); iexact HR
    iapply (reached_at (F := F) (peer 2 c, 6)); iexact HR
  isplitr
  · isplitr; · iapply (reached_at (F := F) (c, 1)); iexact HR
    isplitr; · iapply (reached_at (F := F) (c, 2)); iexact HR
    iapply (reached_at (F := F) (c, 3)); iexact HR
  isplitr; · iapply (reached_at (F := F) (c, 4)); iexact HR
  isplitr; · iapply (reached_at (F := F) (c, 5)); iexact HR
  iapply (reached_at (F := F) (c, 6)); iexact HR

theorem ghost_intro (K : Dev nD × Fin 7 → ℕ) (c : Dev nD) : iprop(records m ρ K ∗ positions c ∗ payToks c) ⊢ G' m ρ c := by
  unfold G' ghost
  iintro ⟨#HR, Hp, Ht⟩
  iexists K
  isplitr; · iapply (invs_intro m ρ K c); iexact HR
  isplitl [Hp]; · iexact Hp
  isplitr; · iapply (marks_intro m ρ K c); iexact HR
  iexact Ht

omit [FloatOps F] in
/-- The tokens go to their payers: duty `k` of a barrier cell, and that of receive cell `k`, to the owner's peer `k`. -/
theorem toks_around : (bigSep Finset.univ fun c : Dev nD => (toks c : sProp 𝕄)) ⊢ bigSep Finset.univ fun c : Dev nD => payToks c := by
  unfold toks payToks
  simp only [bigSep_sep']
  rw [bigSep_univ_equiv (around 0) (fun c : Dev nD => (dutyTok ER (barCell c) 0 (0 : Fin 3) : sProp 𝕄)),
    bigSep_univ_equiv (around 1) (fun c : Dev nD => (dutyTok ER (barCell c) 0 (1 : Fin 3) : sProp 𝕄)),
    bigSep_univ_equiv (around 2) (fun c : Dev nD => (dutyTok ER (barCell c) 0 (2 : Fin 3) : sProp 𝕄)),
    bigSep_univ_equiv (around 0) (fun c : Dev nD => (dutyTok ER (recvCell c 0) 0 (0 : Fin 3) : sProp 𝕄)),
    bigSep_univ_equiv (around 1) (fun c : Dev nD => (dutyTok ER (recvCell c 1) 0 (0 : Fin 3) : sProp 𝕄)),
    bigSep_univ_equiv (around 2) (fun c : Dev nD => (dutyTok ER (recvCell c 2) 0 (0 : Fin 3) : sProp 𝕄))]
  exact BI.Entails.refl _

omit [FloatOps F] in
theorem positions_of (c : Dev nD) : (bigSep Finset.univ fun k : Fin 7 => (atPos ER (kcell (c, k)) 0 ∅ 0 : sProp 𝕄)) ⊢ positions c := by
  rw [bigSep_seven]
  unfold positions
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  ihave Htk := (toks_around (F := F)) $$ Htok
  ihave Hpos := (show (bigSep Finset.univ fun c : Dev nD => bigSep Finset.univ fun k : Fin 7 => (atPos ER (kcell (c, k)) 0 ∅ 0 : sProp 𝕄))
      ⊢ bigSep Finset.univ fun c : Dev nD => positions c from bigSep_mono fun c _ => positions_of (F := F) c) $$ Hat
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hpos]; · iexact Hpos
    iexact Htk

/-- The step over all devices at once, from every device's semaphores. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_peer_iff (k : Fin 3) (c d : Dev nD) : barCell c = barCell (peer k d) ↔ d = peer k c :=
  ⟨fun h => by
    have h' : c = peer k d := congrArg (fun g : GSem nD τ sig => g.1.1) h
    rw [h', peer_peer], fun h => by rw [h, peer_peer]⟩
theorem recvD_injective : Function.Injective recvD := by decide
theorem recv_peer_iff (k k' : Fin 3) (c d : Dev nD) : recvCell c k = recvCell (peer k' d) k' ↔ k = k' ∧ d = peer k c :=
  ⟨fun h => by
    have h' : c = peer k' d := congrArg (fun g : GSem nD τ sig => g.1.1) h
    have h2 : SemLoc.dma (recvD k) = (SemLoc.dma (recvD k') : SemLoc sig) := congrArg (fun g : GSem nD τ sig => g.2) h
    have h3 : k = k' := recvD_injective (SemLoc.dma.inj h2)
    subst h3
    exact ⟨rfl, by rw [h', peer_peer]⟩, fun ⟨h1, h2⟩ => by subst h1; rw [h2, peer_peer]⟩

theorem bar_ne_recv (c d : Dev nD) (k : Fin 3) : barCell c ≠ recvCell d k := fun h => dma_ne_bar _ (congrArg Prod.snd h).symm
theorem recv_ne_bar (c d : Dev nD) (k : Fin 3) : recvCell c k ≠ barCell d := fun h => dma_ne_bar _ (congrArg Prod.snd h)

/-- What device `d` owes device `c`'s barrier cell: a unit for each peer it is of `c`. -/
theorem owed_bar (d c : Dev nD) :
    O₀ d (barCell c) () = (if d = peer 2 c then 1 else 0) + (if d = peer 1 c then 1 else 0) + (if d = peer 0 c then 1 else 0) := by
  unfold O₀ O₁ O₂ O₃ O₄ O₅
  simp only [Pi.add_apply, Finsupp.add_apply, tallyAt_apply, bar_ne_recv, bar_peer_iff, false_and, if_false, and_true, Nat.zero_add]

/-- What device `d` owes device `c`'s receive cell `k`: the credit of a copy, if it is the peer `k`. -/
theorem owed_recv (k : Fin 3) (d c : Dev nD) : O₀ d (recvCell c k) () = if d = peer k c then N else 0 := by
  unfold O₀ O₁ O₂ O₃ O₄ O₅
  simp only [Pi.add_apply, Finsupp.add_apply, tallyAt_apply, recv_ne_bar, recv_peer_iff, false_and, if_false, and_true, Nat.add_zero]
  fin_cases k <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 0 c) fun _ => 1, Finset.sum_ite_eq' Finset.univ (peer 1 c) fun _ => 1, Finset.sum_ite_eq' Finset.univ (peer 2 c) fun _ => 1,
    if_pos (Finset.mem_univ _), if_pos (Finset.mem_univ _), if_pos (Finset.mem_univ _)]

theorem launch_recv (k : Fin 3) (c : Dev nD) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv k d c, Finset.sum_ite_eq' Finset.univ (peer k c) fun _ => N,
    if_pos (Finset.mem_univ _)]

omit [FloatOps F] in
theorem creds (c : Dev nD) :
    (Pipeline.launchCred O₀ c : sProp 𝕄) ⊢ iprop(cred (tallyAt (barCell c) () 3)
      ∗ (cred (tallyAt (recvCell c 0) () N) ∗ cred (tallyAt (recvCell c 1) () N) ∗ cred (tallyAt (recvCell c 2) () N))) := by
  unfold Pipeline.launchCred
  rw [bigSep_univ_at _ (SemLoc.reg barS), launch_bar]
  refine sep_mono_right ?_
  have hd (k k' : Fin 3) (h : k ≠ k') : (SemLoc.dma (recvD k) : SemLoc sig) ≠ .dma (recvD k') := fun e => h (recvD_injective (SemLoc.dma.inj e))
  rw [BI.bigSep_erase (show (SemLoc.dma (recvD 0) : SemLoc sig) ∈ Finset.univ.erase (SemLoc.reg barS) from Finset.mem_erase.mpr ⟨dma_ne_bar _, Finset.mem_univ _⟩), launch_recv]
  refine sep_mono_right ?_
  rw [BI.bigSep_erase (show (SemLoc.dma (recvD 1) : SemLoc sig) ∈ (Finset.univ.erase (SemLoc.reg barS)).erase (.dma (recvD 0)) from
    Finset.mem_erase.mpr ⟨hd 1 0 (by decide), Finset.mem_erase.mpr ⟨dma_ne_bar _, Finset.mem_univ _⟩⟩), launch_recv]
  refine sep_mono_right ?_
  rw [← launch_recv]
  exact bigSep_elim (Finset.mem_erase.mpr ⟨hd 2 1 (by decide), Finset.mem_erase.mpr ⟨hd 2 0 (by decide), Finset.mem_erase.mpr ⟨dma_ne_bar _, Finset.mem_univ _⟩⟩⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hl, Hzb, ⟨Hs0, Hs1, Hs2⟩, Hr0, Hr1, Hr2⟩
  isplitl [Hzb]; · iexact Hzb
  isplitl [Hs0 Hs1 Hs2 Hr0 Hr1 Hr2]
  · isplitl [Hs0]; · iexact Hs0
    isplitl [Hs1]; · iexact Hs1
    isplitl [Hs2]; · iexact Hs2
    isplitl [Hr0]; · iexact Hr0
    isplitl [Hr1] <;> iassumption
  isplitl [Hr] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Array `w` of device `c` when the run is over. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the 32 devices, for any float values, from any memory with zero counters: every weakly fair execution of the program ends,
    with every device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The three argument arrays hold after the run what they held before it; -/
theorem finalA_0 (c : Dev nD) : finalA m ρ c (0 : Fin 4) = m ((c : Thread nD τ).loc main_arg0) := (dats (F := F) m ρ 0 c).arrAt_in (0 : Fin 4) rfl _
theorem finalA_1 (c : Dev nD) : finalA m ρ c (1 : Fin 4) = m ((c : Thread nD τ).loc main_arg1) := (dats (F := F) m ρ 0 c).arrAt_in (1 : Fin 4) rfl _
theorem finalA_2 (c : Dev nD) : finalA m ρ c (2 : Fin 4) = m ((c : Thread nD τ).loc main_arg2) := (dats (F := F) m ρ 0 c).arrAt_in (2 : Fin 4) rfl _

end Cert.Exchange

end
-- ==== Proof.Frames.lean ====
/-
The frame claims: each program ends in every execution, with its arguments as they were and every semaphore counter at zero. The
kernel at its own floats and at the extended reals is one text, so one run (`Cert.Exchange.run_main`) serves both.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

/-- The run read at the arguments and the counters, for any float values. -/
theorem frame_any {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono
    (fun _ h => ⟨fun c => ⟨(h.1 c (0 : Fin 4)).trans (Cert.Exchange.finalA_0 m g c), (h.1 c (1 : Fin 4)).trans (Cert.Exchange.finalA_1 m g c),
      (h.1 c (2 : Fin 4)).trans (Cert.Exchange.finalA_2 m g c)⟩, h.2⟩)
    (Cert.Exchange.run_main (F := F) m g)

/-- The two printings of the kernel have the same body table, label by label. -/
theorem bodies_eq : Cert.Kernel.defs₀ (F := Bits) = Cert.KernelIdeal.defs₀ (F := Bits) := by
  unfold Cert.Kernel.defs₀ Cert.KernelIdeal.defs₀
  congr 1
  funext l a
  match l, a with
  | 0, (t, s) => rfl

/-- Hence the same definitions. -/
theorem defs_eq : Cert.Kernel.defs (F := Bits) = Cert.KernelIdeal.defs (F := Bits) := congrArg (Pipeline.defs _) bodies_eq

/-- The kernel at its own floats ends with its arguments unchanged and every counter at zero. -/
theorem frame_kernel : Cert.quiescent_Kernel := by
  intro m ρ _
  rw [defs_eq]
  exact frame_any (F := Bits) m ρ

/-- The kernel at the extended reals ends with its arguments unchanged and every counter at zero. -/
theorem frame_kernelIdeal : Cert.quiescent_KernelIdeal := fun m ρ _ => frame_any (F := Ideal) m ρ

/-- The reference ends with its arguments unchanged; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Tame.lean ====
/-
What the precondition `tame` says of one device's arguments.
-/
module

public import proofs.«01_k».proof.Pre_tame_KernelIdeal
public import proofs.«01_k».proof.Pre_tame_ReferenceIdeal
public import Idealize.ShloMosaic.PureOps.Ideal
public import Idealize.ShloMosaic.Lib.ReduceAll
public import Idealize.ShloMosaic.Lib.WordCmp

@[expose] public section

set_option maxRecDepth 16384

noncomputable section

namespace Cert.Tame

open Idealize.ShloMosaic

/-- The side conditions of the two printings of `tame`. -/
theorem kernel_facts : Cert.Pre_tame_KernelIdeal.Facts where
  bitsLt_bf16_f32 := by decide
  bcast_S_S256x512 := by decide
  reducesTo_S256x512_S_d0_1 := by decide
  h_S_ := by decide
  bcast_S_S512x4096 := by decide
  reducesTo_S512x4096_S_d0_1 := by decide
  bcast_S_S256 := by decide
  reducesTo_S256_S_d0 := by decide

theorem reference_facts : Cert.Pre_tame_ReferenceIdeal.Facts where
  bitsLt_bf16_f32 := by decide
  bcast_S_S256x512 := by decide
  reducesTo_S256x512_S_d0_1 := by decide
  h_S_ := by decide
  bcast_S_S512x16384 := by decide
  reducesTo_S512x16384_S_d0_1 := by decide
  bcast_S_S256 := by decide
  reducesTo_S256_S_d0 := by decide

/-- A conjunction of one-bit words is one exactly when both are. -/
theorem andi_one {a b : BitVec 1} (h : IntOp.andi a b = 1#1) : a = 1#1 ∧ b = 1#1 := by
  revert a b; decide +kernel

/-- The two comparisons of an extended real with the infinities say that it is a real. -/
theorem finite {a : EReal} (h : IntOp.andi (FloatOps.cmpf (F := Ideal) (φ := .f32) .ogt a (Ideal.ofBits .f32 0xFF800000#32))
    (FloatOps.cmpf (F := Ideal) (φ := .f32) .olt a (Ideal.ofBits .f32 0x7F800000#32)) = 1#1) : a ≠ ⊤ ∧ a ≠ ⊥ := by
  obtain ⟨h1, h2⟩ := andi_one h
  have e1 : Ideal.ofBits .f32 0xFF800000#32 = ⊥ := by simp [Ideal.ofBits, Ideal.ieee]
  have e2 : Ideal.ofBits .f32 0x7F800000#32 = ⊤ := by simp [Ideal.ofBits, Ideal.ieee]
  rw [e1] at h1
  rw [e2] at h2
  constructor
  · rintro rfl
    simp [FloatOps.cmpf, Ideal.cmp] at h2
  · rintro rfl
    simp [FloatOps.cmpf, Ideal.cmp] at h1

/-- A label that is at least 0 and below 16384, read signed, is below 16384 read unsigned. -/
theorem in_range {a : BitVec 32} (h : IntOp.andi (IntOp.cmpi .sge a 0#32) (IntOp.cmpi .slt a 16384#32) = 1#1) : a.toNat < 16384 := by
  obtain ⟨h1, h2⟩ := andi_one h
  rw [IntOp.cmpi_sge] at h1
  rw [IntOp.cmpi_slt] at h2
  have e0 : (0#32).toInt = 0 := rfl
  have e1 : (16384#32).toInt = 16384 := rfl
  rw [e0] at h1
  rw [e1] at h2
  have := BitVec.toInt_eq_toNat_cond a
  split at this <;> omega

section
open Cert.Pre_tame_KernelIdeal Cert.Pre_tame_KernelIdeal.Facts

instance : Subsingleton S_.Idx := ⟨fun _ _ => funext fun a => a.elim0⟩

/-- Under `tame` the device's floats are reals and its labels are below 16384. -/
theorem reads [Cert.Pre_tame_KernelIdeal.Facts] (x : FVec Ideal S256x512 .bf16) (w : FVec Ideal S512x4096 .bf16) (l : IVec S256 32)
    (h : Cert.Pre_tame_KernelIdeal.fn (F := Ideal) x w l = fun _ => 1#1) :
    (∀ i, x i ≠ ⊤ ∧ x i ≠ ⊥) ∧ (∀ i, w i ≠ ⊤ ∧ w i ≠ ⊥) ∧ ∀ i, (l i).toNat < 16384 := by
  have h0 := congrFun h (Shape.Idx.first h_S_)
  obtain ⟨hxw, hl⟩ := andi_one h0
  obtain ⟨hx, hw⟩ := andi_one hxw
  exact ⟨fun i => finite (Host.reduce_andi_all _ _ _ _ _ hx i), fun i => finite (Host.reduce_andi_all _ _ _ _ _ hw i),
    fun i => in_range (Host.reduce_andi_all _ _ _ _ _ hl i)⟩

end

end Cert.Tame

end
-- ==== Proof.Maths.lean ====
/-
The equation between the two forms of the loss: with `m` the greatest of finitely many reals `L j`,
`(m + log (Σ exp (L j − m))) − L l = log (Σ exp (L j)) − log (exp (L l))`, over the extended reals; and the sums over the vocabulary
taken block by block.
-/
module

public import Idealize.ShloMosaic.PureOps.Ideal.Laws

@[expose] public section

namespace Cert.Maths

open Idealize.ShloMosaic
open scoped BigOperators

/-- A finite sum of reals, read among the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a sum of exponentials of reals is the real logarithm. -/
theorem log_sum {n : ℕ} (hn : 0 < n) (f : Fin n → ℝ) :
    Ideal.log (∑ j, Ideal.exp (f j : EReal)) = ((Real.log (∑ j, Real.exp (f j)) : ℝ) : EReal) := by
  have hp : 0 < ∑ j, Real.exp (f j) := Finset.sum_pos (fun j _ => Real.exp_pos _) ⟨⟨0, hn⟩, Finset.mem_univ _⟩
  simp only [Ideal.exp_coe]
  rw [← coe_sum, Ideal.log_coe, if_neg (not_le.2 hp)]

/-- The shifted form of the loss (shifted by the row's greatest logit) is the plain one. -/
theorem loss_eq {n : ℕ} (hn : 0 < n) (L : Fin n → ℝ) (l : Fin n) :
    ((Finset.univ.fold max ⊥ fun j => (L j : EReal))
        + Ideal.log (∑ j, Ideal.exp ((L j : EReal) - Finset.univ.fold max ⊥ fun j => (L j : EReal)))) - (L l : EReal)
      = Ideal.log (∑ j, Ideal.exp (L j : EReal)) - Ideal.log (Ideal.exp (L l : EReal)) := by
  obtain ⟨j₀, -, h₀⟩ : ∃ j₀ ∈ (Finset.univ : Finset (Fin n)), (Finset.univ.fold max ⊥ fun j => (L j : EReal)) = (L j₀ : EReal) :=
    Finset.exists_mem_eq_sup Finset.univ ⟨⟨0, hn⟩, Finset.mem_univ _⟩ (fun j => (L j : EReal))
  rw [h₀]
  have hsub : ∀ j, (L j : EReal) - (L j₀ : EReal) = ((L j - L j₀ : ℝ) : EReal) := fun j => (EReal.coe_sub _ _).symm
  simp only [hsub]
  rw [log_sum hn, log_sum hn, Ideal.exp_coe, Ideal.log_coe, if_neg (not_le.2 (Real.exp_pos _)), Real.log_exp, ← EReal.coe_add,
    ← EReal.coe_sub, ← EReal.coe_sub]
  congr 2
  have hs : ∑ j, Real.exp (L j - L j₀) = (∑ j, Real.exp (L j)) * Real.exp (-L j₀) := by
    rw [Finset.sum_mul]
    exact Finset.sum_congr rfl fun j _ => by rw [← Real.exp_add]; rfl
  have hp : 0 < ∑ j, Real.exp (L j) := Finset.sum_pos (fun j _ => Real.exp_pos _) ⟨⟨0, hn⟩, Finset.mem_univ _⟩
  rw [hs, Real.log_mul hp.ne' (Real.exp_pos _).ne', Real.log_exp]
  ring

/-- Column `j` of block `z` among all the columns. -/
def col (z : Fin 4) (j : Fin 4096) : Fin 16384 := ⟨4096 * z.val + j.val, by omega⟩

/-- A sum over all the columns is the sum over the four blocks of the sums over a block's columns. -/
theorem sum_blocks (g : Fin 16384 → EReal) : ∑ z, ∑ j, g (col z j) = ∑ i, g i := by
  rw [← Fintype.sum_prod_type' fun z j => g (col z j)]
  refine Fintype.sum_equiv (finProdFinEquiv (m := 4) (n := 4096)) _ _ fun p => ?_
  congr 1
  apply Fin.ext
  show 4096 * p.1.val + p.2.val = p.2.val + 4096 * p.1.val
  omega

/-- The sum over the blocks of what the masked columns hold is the one at the label. -/
theorem sum_masked (g : Fin 16384 → EReal) (l : Fin 16384) :
    ∑ z, ∑ j, (if col z j = l then g (col z j) else 0) = g l := by
  rw [sum_blocks fun i => if i = l then g i else 0]
  simp

end Cert.Maths

end
-- ==== Proof.Contents.lean ====
/-
What the arrays hold: the blocks the pipeline stages are the whole argument arrays, and the result array ends at `outAt`.
-/
module

public import proofs.«01_k».proof.Proof.Run

@[expose] public section

set_option maxRecDepth 16384

noncomputable section

namespace Cert.Exchange

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Each window is its whole array: element `i` of the block is element `i` of the array. -/
theorem emb0 (i : S256x512.Idx) : (win0_0.blk (0 : Fin 1)).view.emb i = i := by
  funext a
  exact Fin.ext (Pipeline.Window.rect_emb_val_of_index_zero win0_0 (0 : Fin 1) a rfl i)
theorem emb1 (i : S512x4096.Idx) : (win0_1.blk (0 : Fin 1)).view.emb i = i := by
  funext a
  exact Fin.ext (Pipeline.Window.rect_emb_val_of_index_zero win0_1 (0 : Fin 1) a rfl i)
theorem emb2 (i : S256.Idx) : (win0_2.blk (0 : Fin 1)).view.emb i = i := by
  funext a
  exact Fin.ext (Pipeline.Window.rect_emb_val_of_index_zero win0_2 (0 : Fin 1) a rfl i)
theorem emb3 (i : S256.Idx) : (win0_3.blk (0 : Fin 1)).view.emb i = i := by
  funext a
  exact Fin.ext (Pipeline.Window.rect_emb_val_of_index_zero win0_3 (0 : Fin 1) a rfl i)

/-- The staged block of each argument is the argument. -/
theorem xstg_eq (c : Dev nD) : xstg m ρ c = m ((c : Thread nD τ).loc main_arg0) :=
  funext fun i => congrArg (m ((c : Thread nD τ).loc main_arg0)) (emb0 i)
theorem wstg_eq (c : Dev nD) : wstg m ρ c = m ((c : Thread nD τ).loc main_arg1) :=
  funext fun i => congrArg (m ((c : Thread nD τ).loc main_arg1)) (emb1 i)
theorem lstg_eq (c : Dev nD) : lstg m ρ c = m ((c : Thread nD τ).loc main_arg2) :=
  funext fun i => congrArg (m ((c : Thread nD τ).loc main_arg2)) (emb2 i)

/-- The result array ends at what the body computed. -/
theorem finalA_3 (c : Dev nD) : finalA m ρ c (3 : Fin 4) = outAt m ρ c := by
  have h : finalA m ρ c (3 : Fin 4)
      = (win0_3.blk (0 : Fin 1)).view.write (Elt F) ((s₀ m ρ).mem ((c : Thread nD τ).loc main_v1)) (outAt m ρ c) Finset.univ := by
    rfl
  rw [h]
  funext i
  have e := View.write_emb_of_mem (v := (win0_3.blk (0 : Fin 1)).view) (Val := Elt F) ((s₀ m ρ).mem ((c : Thread nD τ).loc main_v1)) (outAt m ρ c)
    (Finset.mem_univ i)
  rw [emb3 i] at e
  exact e

end Cert.Exchange

end
-- ==== Proof.KernelValue.lean ====
/-
The kernel's result at the extended reals, element by element: the rows a device computes, the rows it receives, and their sums over
the four blocks of the vocabulary.
-/
module

public import proofs.«01_k».proof.Proof.Contents
public import proofs.«01_k».proof.Proof.Maths
public import Idealize.ShloMosaic.Lib.Pointwise
public import Idealize.ShloMosaic.Lib.Layout

@[expose] public section

set_option maxRecDepth 16384

noncomputable section

namespace Cert.KernelValue

open Idealize.ShloMosaic Idealize.ShloMosaic.TcCoe Idealize.ShloMosaic.Pointwise
open Cert.KernelIdeal Cert.KernelIdeal.Gen Cert.Exchange Cert.Maths
open scoped BigOperators

/-- The logit of row `r` at column `j` of the whole vocabulary. -/
def logit (x : FVec Ideal S256x512 .bf16) (W : FVec Ideal ⟨2, ![512, 16384]⟩ .bf16) (r : Fin 256) (j : Fin 16384) : EReal :=
  ∑ k : Fin 512, x (ix2 r k) * W (ix2 k j)

/-- Device `c`'s coordinate on the mesh axis z. -/
def zc (c : Dev nD) : Fin 4 := ⟨c.val % 4, Nat.mod_lt _ (by decide)⟩

/-- Element `(k, j)` of device `c`'s block of `W` is element `(k, 4096 z + j)` of `W`. -/
theorem block_apply (W : FVec Ideal ⟨2, ![512, 16384]⟩ .bf16) (c : Dev nD) (k : Fin 512) (j : Fin 4096) :
    Layout.blockN ⟨2, ![512, 4096]⟩ ⟨2, ![512, 16384]⟩ (Layout.meshBlock [2, 4, 4] ![[], [2]] c) W (by decide) (ix2 k j) = W (ix2 k (col (zc c) j)) := by
  rw [Layout.blockN_apply]
  congr 1
  funext b
  apply Fin.ext
  rw [Layout.TilesN.idx_val]
  match b with
  | ⟨0, _⟩ =>
    show 0 * 512 + k.val = k.val
    omega
  | ⟨1, _⟩ =>
    show (((c.val / 1) % 4) * 1 + 0) * 4096 + j.val = 4096 * (c.val % 4) + j.val
    omega

/-- The first row a device computes: per row of `x`, the sum of the exponentials of its logits. -/
theorem pay1_0 (zw : BitVec 32) (x : Vec Ideal S256x512 .bf16) (w : Vec Ideal S512x4096 .bf16) (l : Vec Ideal S256 .i32) (r : Fin 256) :
    k0_pay1 (F := Ideal) zw x w l (ix2 0 r) = ∑ j : Fin 4096, Ideal.exp (∑ k : Fin 512, x (ix2 r k) * w (ix2 k j)) := by
  pointwise [k0_pay1]

/-- The second: the same sum over the column that the label names, if it is one of the device's. -/
theorem pay1_1 (zw : BitVec 32) (x : Vec Ideal S256x512 .bf16) (w : Vec Ideal S512x4096 .bf16) (l : Vec Ideal S256 .i32) (r : Fin 256) :
    k0_pay1 (F := Ideal) zw x w l (ix2 1 r) = ∑ j : Fin 4096,
      Scalar.select (IntOp.cmpi CmpIPredicate.eq (BitVec.ofNat 16 j.val) (BitVec.setWidth 16 (IntOp.subi (l (ix1 r)) (Scalar.muli zw 4096#32))))
        (Ideal.exp (∑ k : Fin 512, x (ix2 r k) * w (ix2 k j))) 0 := by
  pointwise [k0_pay1]

/-- The result: the logarithm of the sum of the four first rows less that of the four second rows. -/
theorem pay2 (a : Vec Ideal S1x256 .f32) (b c d : Vec Ideal S1x1x256 .f32) (a' : Vec Ideal S1x256 .f32) (b' c' d' : Vec Ideal S1x1x256 .f32)
    (r : Fin 256) : k0_pay2 (F := Ideal) a b c d a' b' c' d' (ix1 r)
      = Ideal.log (a (ix2 0 r) + b (ix3 0 0 r) + c (ix3 0 0 r) + d (ix3 0 0 r))
        - Ideal.log (a' (ix2 0 r) + b' (ix3 0 0 r) + c' (ix3 0 0 r) + d' (ix3 0 0 r)) := by
  pointwise [k0_pay2]

/-- The word the kernel computes from the device's id is its z coordinate. -/
theorem zW_eq (c : Dev nD) : zW c = BitVec.ofNat 32 (zc c).val := by revert c; decide +kernel

/-- The kernel's 16-bit comparison of a column with the label holds at the label's column of its block and nowhere else. -/
theorem match_iff (z : Fin 4) (j : Fin 4096) (l : BitVec 32) (hl : l.toNat < 16384) :
    BitVec.ofNat 16 j.val = BitVec.setWidth 16 (IntOp.subi l (Scalar.muli (BitVec.ofNat 32 z.val) 4096#32)) ↔ col z j = ⟨l.toNat, hl⟩ := by
  have e : (IntOp.subi l (Scalar.muli (BitVec.ofNat 32 z.val) 4096#32)) = l - BitVec.ofNat 32 z.val * 4096#32 := rfl
  rw [e, ← BitVec.toNat_inj, Fin.ext_iff]
  have hz := z.isLt
  have hj := j.isLt
  simp only [BitVec.toNat_setWidth, BitVec.toNat_sub, BitVec.toNat_mul, BitVec.toNat_ofNat, col]
  omega

/-- A select on an equality of words is an `if`. -/
theorem select_if (p q : BitVec 16) (a b : EReal) : Scalar.select (IntOp.cmpi CmpIPredicate.eq p q) a b = if p = q then a else b := by
  by_cases h : p = q
  · subst h; simp [Scalar.select, IntOp.cmpi]
  · rw [if_neg h]
    have hb : (p == q) = false := by simpa using h
    simp [Scalar.select, IntOp.cmpi, hb]

/-- A device and its three peers hold the four blocks, each once. -/
theorem four_cases : ∀ c : Dev nD, (zc c, zc (peer 0 c), zc (peer 1 c), zc (peer 2 c))
    ∈ ([(0, 1, 2, 3), (1, 0, 3, 2), (2, 3, 0, 1), (3, 2, 1, 0)] : List (Fin 4 × Fin 4 × Fin 4 × Fin 4)) := by decide +kernel

/-- So the four devices' values are the values of the four blocks. -/
theorem four (f : Fin 4 → EReal) (c : Dev nD) : f (zc c) + f (zc (peer 0 c)) + f (zc (peer 1 c)) + f (zc (peer 2 c)) = ∑ z, f z := by
  rw [Fin.sum_univ_four]
  have h := four_cases c
  simp only [List.mem_cons, Prod.mk.injEq, List.not_mem_nil, or_false] at h
  rcases h with ⟨h0, h1, h2, h3⟩ | ⟨h0, h1, h2, h3⟩ | ⟨h0, h1, h2, h3⟩ | ⟨h0, h1, h2, h3⟩ <;> rw [h0, h1, h2, h3] <;> ac_rfl

variable (m : (ℓ : Loc nD τ sig) → Buf (Elt Ideal) ℓ) (ρ : Dev nD → PrngReg)
variable (x : FVec Ideal S256x512 .bf16) (W : FVec Ideal ⟨2, ![512, 16384]⟩ .bf16) (l : IVec S256 32)

/-- The arguments on every device, cut from the whole ones. -/
def Cut : Prop := ∀ c : Dev nD, m ((c : Thread nD τ).loc main_arg0) = x
  ∧ m ((c : Thread nD τ).loc main_arg1) = Layout.blockN ⟨2, ![512, 4096]⟩ ⟨2, ![512, 16384]⟩ (Layout.meshBlock [2, 4, 4] ![[], [2]] c) W
  ∧ m ((c : Thread nD τ).loc main_arg2) = l

variable {m x W l}

/-- Device `c`'s first row: its block's sum of exponentials. -/
theorem rows_0 (h : Cut m x W l) (c : Dev nD) (r : Fin 256) :
    rows m ρ c (ix2 (n0 := 2) (n1 := 256) 0 r) = ∑ j, Ideal.exp (logit x W r (col (zc c) j)) := by
  unfold rows
  rw [xstg_eq, wstg_eq, lstg_eq, (h c).1, (h c).2.1, (h c).2.2, pay1_0]
  simp only [block_apply]
  rfl

/-- Its second row: the exponential of the label's logit, if the label's column is in its block, else 0. -/
theorem rows_1 (h : Cut m x W l) (c : Dev nD) (r : Fin 256) (hl : (l (ix1 r)).toNat < 16384) :
    rows m ρ c (ix2 (n0 := 2) (n1 := 256) 1 r)
      = ∑ j, if col (zc c) j = ⟨(l (ix1 r)).toNat, hl⟩ then Ideal.exp (logit x W r (col (zc c) j)) else 0 := by
  unfold rows
  rw [xstg_eq, wstg_eq, lstg_eq, (h c).1, (h c).2.1, (h c).2.2, pay1_1, zW_eq]
  simp only [block_apply, select_if, match_iff _ _ _ hl]
  rfl

/-- A load of row `i` of the device's two rows reads that row. -/
theorem load_row (i : Fin 2) (hb : ∀ a, (![i.val, 0] : Fin 2 → ℕ) a + S1x256.size a ≤ S2x256.size a)
    (f : (cc0_scratch0 : Ref sig .tc).ty.Contents (Elt Ideal)) (r : Fin 256) :
    ((pM : Memref sig .tc .vmem S2x256 .f32).view.readAt (Elt Ideal) (Rect.unit (s := S2x256) ![i.val, 0] S1x256.size hb).toLoadRect f : Vec Ideal S1x256 .f32)
      (ix2 0 r) = f (ix2 (n0 := 2) (n1 := 256) i r) := by
  refine congrArg f (funext fun a => Fin.ext ?_)
  match a with
  | ⟨0, _⟩ => rfl
  | ⟨1, _⟩ => exact (Nat.zero_add _).trans (Nat.one_mul _)

/-- A load of row `i` of slot `k` of what was received reads that row. -/
theorem load_got (k : Fin 3) (i : Fin 2) (hb : ∀ a, (![k.val, i.val, 0] : Fin 3 → ℕ) a + S1x1x256.size a ≤ S3x2x256.size a)
    (f : (cc0_scratch1 : Ref sig .tc).ty.Contents (Elt Ideal)) (r : Fin 256) :
    ((rM : Memref sig .tc .vmem S3x2x256 .f32).view.readAt (Elt Ideal) (Rect.unit (s := S3x2x256) ![k.val, i.val, 0] S1x1x256.size hb).toLoadRect f
      : Vec Ideal S1x1x256 .f32) (ix3 0 0 r) = f (ix3 (n0 := 3) (n1 := 2) (n2 := 256) k i r) := by
  refine congrArg f (funext fun a => Fin.ext ?_)
  match a with
  | ⟨0, _⟩ => rfl
  | ⟨1, _⟩ => rfl
  | ⟨2, _⟩ => exact (Nat.zero_add _).trans (Nat.one_mul _)

/-- Slot `k` of what landed is the rows of peer `k`. -/
theorem landed_at (c : Dev nD) (k : Fin 3) (i : Fin 2) (r : Fin 256) :
    landed m ρ c (ix3 (n0 := 3) (n1 := 2) (n2 := 256) k i r) = rows m ρ (peer k c) (ix2 (n0 := 2) (n1 := 256) i r) := by
  rw [ix3_eq_valueIdx, ix2_eq_valueIdx]
  rfl

/-- The kernel's result on every device: the logarithm of the sum of the exponentials of a row's logits over the whole vocabulary,
    less the logarithm of the exponential of the label's logit. -/
theorem outAt_apply (h : Cut m x W l) (c : Dev nD) (r : Fin 256) (hl : (l (ix1 r)).toNat < 16384) :
    outAt m ρ c (ix1 (n0 := 256) r)
      = Ideal.log (∑ j, Ideal.exp (logit x W r j)) - Ideal.log (Ideal.exp (logit x W r ⟨(l (ix1 r)).toNat, hl⟩)) := by
  have p0 : row0 (rows m ρ c) (ix2 0 r) = _ := load_row 0 _ _ r
  have p1 : row1 (rows m ρ c) (ix2 0 r) = _ := load_row 1 _ _ r
  have g00 : got00 (landed m ρ c) (ix3 0 0 r) = _ := load_got 0 0 _ _ r
  have g10 : got10 (landed m ρ c) (ix3 0 0 r) = _ := load_got 1 0 _ _ r
  have g20 : got20 (landed m ρ c) (ix3 0 0 r) = _ := load_got 2 0 _ _ r
  have g01 : got01 (landed m ρ c) (ix3 0 0 r) = _ := load_got 0 1 _ _ r
  have g11 : got11 (landed m ρ c) (ix3 0 0 r) = _ := load_got 1 1 _ _ r
  have g21 : got21 (landed m ρ c) (ix3 0 0 r) = _ := load_got 2 1 _ _ r
  unfold outAt
  rw [pay2, p0, g00, g10, g20, p1, g01, g11, g21]
  simp only [landed_at]
  rw [rows_0 ρ h, rows_0 ρ h, rows_0 ρ h, rows_0 ρ h, rows_1 ρ h _ _ hl, rows_1 ρ h _ _ hl, rows_1 ρ h _ _ hl, rows_1 ρ h _ _ hl,
    four (fun z => ∑ j, Ideal.exp (logit x W r (col z j))) c,
    four (fun z => ∑ j, if col z j = ⟨(l (ix1 r)).toNat, hl⟩ then Ideal.exp (logit x W r (col z j)) else 0) c,
    sum_blocks fun i => Ideal.exp (logit x W r i), sum_masked fun i => Ideal.exp (logit x W r i)]

end Cert.KernelValue

end
-- ==== Proof.RefValue.lean ====
/-
The reference's result at the extended reals, element by element.
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.RefValue

open Idealize.ShloMosaic Idealize.ShloMosaic.Pointwise Cert.ReferenceIdeal
open Cert.ReferenceIdeal.Facts₀ Cert.ReferenceIdeal.Facts
open scoped BigOperators

/-- The logits of the reference. -/
def logits (x : FVec Ideal S256x512 .bf16) (w : FVec Ideal S512x16384 .bf16) : FVec Ideal S256x16384 .f32 :=
  Host.dotGeneral dot_S256x512_S512x16384_S256x16384_1_0_0_1_n_n none (extf .f32 x bitsLt_bf16_f32) (extf .f32 w bitsLt_bf16_f32)

/-- Each row's greatest logit. -/
def rowMax (L : FVec Ideal S256x16384 .f32) : FVec Ideal S256 .f32 :=
  Host.reduce FloatOps.maximumf L (constant S_ .f32 0xFF800000#32) reducesTo_S256x16384_S256_d1 h_S_

/-- Where each row's label logit is taken from: the row's number and its label, a negative one counted from the end. -/
def picks (l : IVec S256 32) : IVec S256x2 32 :=
  concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩, ⟨S256x1, (broadcastInDim S256x1 ![0] bcast_S256_S256x1_0 (select (cmpi .slt l (broadcastInDim S256 ![] bcast_S_S256 (constantI S_ 32 0#32))) (addi l (broadcastInDim S256 ![] bcast_S_S256 (constantI S_ 32 16384#32))) l))⟩] concatenates_S256x1_S256x1_S256x2_d1

/-- The row's maximum plus the logarithm of the sum of the shifted exponentials. -/
def lse (L : FVec Ideal S256x16384 .f32) (M : FVec Ideal S256 .f32) : FVec Ideal S256 .f32 :=
  shapeCast _ (addf (broadcastInDim S256x1 ![0] bcast_S256_S256x1_0 M) (Host.log (broadcastInDim S256x1 ![0] bcast_S256_S256x1_0 (Host.reduceAdd (Host.exp (subf L (broadcastInDim S256x16384 ![0, 1] bcast_S256x1_S256x16384_0_1 (broadcastInDim S256x1 ![0] bcast_S256_S256x1_0 M)))) (constant S_ .f32 0x00000000#32) reducesTo_S256x16384_S256_d1 h_S_)))) shapeCasts_S256x1_S256

/-- The reference's result of its three arguments. -/
def refOut (x : FVec Ideal S256x512 .bf16) (w : FVec Ideal S512x16384 .bf16) (l : IVec S256 32) : FVec Ideal S256 .f32 :=
  subf (lse (logits x w) (rowMax (logits x w))) (Host.gather gather_S256x16384_S256x2_S256_n_01_n_n_01_1_11 (logits x w) (picks l))

/-- A difference of vectors is read element by element. -/
theorem subf_at (A B : FVec Ideal S256 .f32) (i : S256.Idx) : subf A B i = A i - B i := rfl

/-- The result is the row's logarithm of sums less the label's logit. -/
theorem refOut_at (x w l) (r : Fin 256) : refOut x w l (ix1 r)
    = lse (logits x w) (rowMax (logits x w)) (ix1 r)
      - Host.gather gather_S256x16384_S256x2_S256_n_01_n_n_01_1_11 (logits x w) (picks l) (ix1 r) := by
  unfold refOut
  generalize lse (logits x w) (rowMax (logits x w)) = A
  generalize Host.gather gather_S256x16384_S256x2_S256_n_01_n_n_01_1_11 (logits x w) (picks l) = B
  exact subf_at A B _

/-- A logit is the sum of the products of a row of `x` with a column of `w`. -/
theorem logits_apply (x w) (r : Fin 256) (j : Fin 16384) : logits x w (ix2 r j) = ∑ k : Fin 512, x (ix2 r k) * w (ix2 k j) := by
  pointwise [logits]

/-- The word of minus infinity reads as the least extended real. -/
theorem neg_inf : Ideal.ofBits .f32 0xFF800000#32 = ⊥ := by simp [Ideal.ofBits, Ideal.ieee]

/-- The row's maximum is the fold of `max` over its logits. -/
theorem rowMax_apply (L) (r : Fin 256) : rowMax L (ix1 r) = Finset.univ.fold max ⊥ fun j : Fin 16384 => L (ix2 r j) := by
  pointwise [rowMax]
  rw [show Ideal.ofBits FTy.f32 4286578688#32 = ⊥ from neg_inf]

/-- The shifted logarithm of sums, at a row. -/
theorem lse_apply (L M) (r : Fin 256) : lse L M (ix1 r) = M (ix1 r) + Ideal.log (∑ j : Fin 16384, Ideal.exp (L (ix2 r j) - M (ix1 r))) := by
  pointwise [lse]

/-- The first start is the row's number. -/
theorem picks_0 (l) (r : Fin 256) : picks l (ix2 r 0) = BitVec.ofNat 32 r.val := by
  pointwise [picks]
  revert r
  decide +kernel

/-- The second is the label, when it is in range. -/
theorem picks_1 (l : IVec S256 32) (r : Fin 256) (hl : (l (ix1 r)).toNat < 16384) : picks l (ix2 r 1) = l (ix1 r) := by
  pointwise [picks]
  have h : (l (ix1 r)).slt 0#32 = false := by
    have := BitVec.toInt_eq_toNat_of_lt (x := l (ix1 r)) (by omega)
    simp [BitVec.slt, this]
  simp [Scalar.select, IntOp.cmpi, h]

/-- The gather reads element `(start 0, start 1)` of its operand, each start clamped into its axis. -/
theorem gather_apply (X : FVec Ideal S256x16384 .f32) (ix : IVec S256x2 32) (r : Fin 256) :
    Host.gather gather_S256x16384_S256x2_S256_n_01_n_n_01_1_11 X ix (ix1 r)
      = X (ix2 ⟨min (ix (ix2 r 0)).toInt.toNat 255, by omega⟩ ⟨min (ix (ix2 r 1)).toInt.toNat 16383, by omega⟩) := by
  unfold Host.gather
  congr 1
  funext a
  refine Fin.ext ?_
  let D := gather_S256x16384_S256x2_S256_n_01_n_n_01_1_11
  show D.start (ix1 r) ix a + D.batchCoord (ix1 r) a + D.offCoord (ix1 r) a = _
  have hc : a ∈ D.collapsedSliceDims := by
    match a with
    | ⟨0, _⟩ => exact List.mem_cons_self
    | ⟨1, _⟩ => exact List.mem_cons_of_mem _ List.mem_cons_self
  rw [GatherDims.batchCoord_eq_zero _ _ _ (fun h => by simp [D, gather_S256x16384_S256x2_S256_n_01_n_n_01_1_11] at h),
    GatherDims.offCoord_eq_zero _ _ _ (fun h => ((GatherDims.mem_sKept _ _).mp h).1 hc)]
  simp only [Nat.add_zero]
  unfold GatherDims.start
  match a, hc with
  | ⟨0, h0⟩, _ =>
    have hm : (⟨0, h0⟩ : Fin S256x16384.rank) ∈ D.startIndexMap := List.mem_cons_self
    rw [dif_pos hm]
    have hsi : D.siIdx (ix1 r) ⟨List.idxOf (⟨0, h0⟩ : Fin S256x16384.rank) D.startIndexMap, List.idxOf_lt_length_iff.2 hm⟩ = ix2 r 0 := by
      funext b; refine Fin.ext ?_
      match b with
      | ⟨0, _⟩ => rfl
      | ⟨1, _⟩ => rfl
    rw [hsi]
    rfl
  | ⟨1, h1⟩, _ =>
    have hm : (⟨1, h1⟩ : Fin S256x16384.rank) ∈ D.startIndexMap := List.mem_cons_of_mem _ List.mem_cons_self
    rw [dif_pos hm]
    have hsi : D.siIdx (ix1 r) ⟨List.idxOf (⟨1, h1⟩ : Fin S256x16384.rank) D.startIndexMap, List.idxOf_lt_length_iff.2 hm⟩ = ix2 r 1 := by
      funext b; refine Fin.ext ?_
      match b with
      | ⟨0, _⟩ => rfl
      | ⟨1, _⟩ => rfl
    rw [hsi]
    rfl

/-- The label's logit, for a label in range. -/
theorem gather_picks (X : FVec Ideal S256x16384 .f32) (l : IVec S256 32) (r : Fin 256) (hl : (l (ix1 r)).toNat < 16384) :
    Host.gather gather_S256x16384_S256x2_S256_n_01_n_n_01_1_11 X (picks l) (ix1 r) = X (ix2 r ⟨(l (ix1 r)).toNat, hl⟩) := by
  rw [gather_apply]
  have e1 : (l (ix1 r)).toInt.toNat = (l (ix1 r)).toNat := by
    rw [BitVec.toInt_eq_toNat_of_lt (by omega)]; rfl
  have e0 : (BitVec.ofNat 32 r.val).toInt.toNat = r.val := by
    have hr := r.isLt
    rw [BitVec.toInt_eq_toNat_of_lt (by rw [BitVec.toNat_ofNat]; omega), BitVec.toNat_ofNat]
    show r.val % 2 ^ 32 = r.val
    omega
  congr 2
  · exact Fin.ext (by show min (picks l (ix2 r 0)).toInt.toNat 255 = r.val; rw [picks_0, e0]; have := r.isLt; omega)
  · exact Fin.ext (by show min (picks l (ix2 r 1)).toInt.toNat 16383 = (l (ix1 r)).toNat; rw [picks_1 l r hl, e1]; omega)

end Cert.RefValue

end
-- ==== Proof.Algebraic.lean ====
/-
The kernel at the extended reals ends, on every device, with the reference's result.
-/
module

public import proofs.«01_k».proof.Defs
public import proofs.«01_k».proof.Proof.Frames
public import proofs.«01_k».proof.Proof.Maths
public import proofs.«01_k».proof.Proof.KernelValue
public import proofs.«01_k».proof.Proof.RefValue
public import proofs.«01_k».proof.Proof.Tame

@[expose] public section

set_option maxRecDepth 16384

noncomputable section

namespace Cert.Proof

open Idealize.ShloMosaic Idealize.ShloMosaic.TcCoe Idealize.ShloMosaic.Pointwise Idealize.SL.Sem
open Cert.KernelValue Cert.Exchange
open scoped BigOperators

/-- Logits of finite arguments are reals. -/
theorem logit_real (x : FVec Ideal Cert.KernelIdeal.S256x512 .bf16) (W : FVec Ideal ⟨2, ![512, 16384]⟩ .bf16)
    (hx : ∀ r k, x (ix2 r k) ≠ ⊤ ∧ x (ix2 r k) ≠ ⊥) (hW : ∀ k j, W (ix2 k j) ≠ ⊤ ∧ W (ix2 k j) ≠ ⊥) (r : Fin 256) (j : Fin 16384) :
    logit x W r j = ((∑ k, EReal.toReal (x (ix2 r k)) * EReal.toReal (W (ix2 k j)) : ℝ) : EReal) := by
  unfold logit
  rw [Cert.Maths.coe_sum]
  refine Finset.sum_congr rfl fun k _ => ?_
  rw [EReal.coe_mul, EReal.coe_toReal (hx r k).1 (hx r k).2, EReal.coe_toReal (hW k j).1 (hW k j).2]

/-- The reference's result, for finite arguments and labels in range, in the form the kernel computes. -/
theorem refOut_apply (x : FVec Ideal Cert.KernelIdeal.S256x512 .bf16) (W : FVec Ideal ⟨2, ![512, 16384]⟩ .bf16) (l : IVec Cert.KernelIdeal.S256 32)
    (hx : ∀ r k, x (ix2 r k) ≠ ⊤ ∧ x (ix2 r k) ≠ ⊥) (hW : ∀ k j, W (ix2 k j) ≠ ⊤ ∧ W (ix2 k j) ≠ ⊥) (r : Fin 256)
    (hl : (l (ix1 r)).toNat < 16384) :
    Cert.RefValue.refOut x W l (ix1 r)
      = Ideal.log (∑ j, Ideal.exp (logit x W r j)) - Ideal.log (Ideal.exp (logit x W r ⟨(l (ix1 r)).toNat, hl⟩)) := by
  have hL : ∀ j, Cert.RefValue.logits x W (ix2 r j) = logit x W r j := fun j => Cert.RefValue.logits_apply x W r j
  rw [Cert.RefValue.refOut_at, Cert.RefValue.lse_apply, Cert.RefValue.gather_picks _ l r hl, Cert.RefValue.rowMax_apply]
  simp only [hL]
  have hreal := logit_real x W hx hW r
  generalize logit x W r = L at hreal ⊢
  obtain rfl : L = fun j => ((∑ k, EReal.toReal (x (ix2 r k)) * EReal.toReal (W (ix2 k j)) : ℝ) : EReal) := funext hreal
  exact Cert.Maths.loss_eq (by omega) (fun j => ∑ k, EReal.toReal (x (ix2 r k)) * EReal.toReal (W (ix2 k j))) ⟨(l (ix1 r)).toNat, hl⟩

/-- Column `j` of the whole vocabulary is a column of the block of the device whose z coordinate is `j / 4096`. -/
theorem col_split (j : Fin 16384) : ∃ (c : Dev Cert.KernelIdeal.nD) (j' : Fin 4096), Cert.Maths.col (zc c) j' = j := by
  have hj := j.isLt
  refine ⟨⟨j.val / 4096, by show j.val / 4096 < 32; omega⟩, ⟨j.val % 4096, by omega⟩, Fin.ext ?_⟩
  show 4096 * (j.val / 4096 % 4) + j.val % 4096 = j.val
  omega

/-- Under `tame`, each device's result is the reference's. -/
theorem out_eq [Cert.Pre_tame_KernelIdeal.Facts] (m : (ℓ : Loc Cert.KernelIdeal.nD Cert.KernelIdeal.τ Cert.KernelIdeal.sig) → Buf (Elt Ideal) ℓ)
    (g : Dev Cert.KernelIdeal.nD → PrngReg)
    (x : FVec Ideal Cert.KernelIdeal.S256x512 .bf16) (W : FVec Ideal ⟨2, ![512, 16384]⟩ .bf16) (l : IVec Cert.KernelIdeal.S256 32)
    (hp : Cert.Pre_KernelIdeal_tame_KernelIdeal m) (h : Cut m x W l) (c : Dev Cert.KernelIdeal.nD) :
    outAt m g c = Cert.RefValue.refOut x W l := by
  have hr := fun c => Cert.Tame.reads _ _ _ (hp c)
  have hx : ∀ r k, x (ix2 r k) ≠ ⊤ ∧ x (ix2 r k) ≠ ⊥ := fun r k => by
    have := (hr c).1 (ix2 (n0 := 256) (n1 := 512) r k)
    rwa [(h c).1] at this
  have hl : ∀ r, (l (ix1 r)).toNat < 16384 := fun r => by
    have := (hr c).2.2 (ix1 (n0 := 256) r)
    rwa [(h c).2.2] at this
  have hW : ∀ k j, W (ix2 k j) ≠ ⊤ ∧ W (ix2 k j) ≠ ⊥ := fun k j => by
    obtain ⟨d, j', rfl⟩ := col_split j
    have := (hr d).2.1 (ix2 (n0 := 512) (n1 := 4096) k j')
    rwa [(h d).2.1, block_apply] at this
  funext i
  rw [eq_ix1 i]
  exact (outAt_apply g h c (i 0) (hl (i 0))).trans (refOut_apply x W l hx hW (i 0) (hl (i 0))).symm

/-- The kernel at the extended reals agrees with the reference, on every device. -/
theorem algebraic [Cert.Pre_tame_KernelIdeal.Facts] : Cert.algebraic_KernelIdeal_ReferenceIdeal_pre_tame_KernelIdeal := by
  intro m g m' g' hp h
  refine ⟨Cert.RefValue.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · exact (θ_run Cert.KernelIdeal.defs _ _).mono
      (fun _ q c => ⟨((q.1 c (3 : Fin 4)).trans (finalA_3 m g c)).trans (out_eq m g _ _ _ hp h c),
        (q.1 c (0 : Fin 4)).trans (finalA_0 m g c), (q.1 c (1 : Fin 4)).trans (finalA_1 m g c), (q.1 c (2 : Fin 4)).trans (finalA_2 m g c)⟩)
      (run_main (F := Ideal) m g)
  · exact (θ_run Cert.ReferenceIdeal.defs _ _).mono
      (fun _ q => ⟨(q 0).1, (q 0).2⟩)
      (Cert.ReferenceIdeal.Value.run (F := Ideal) m' g')

end Cert.Proof

end
-- ==== Proof.lean ====
/-
The proof of `Cert.Claim`.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Tame
public import proofs.«01_k».proof.Proof.Algebraic

@[expose] public section

noncomputable section

namespace Cert.Proof

open Idealize.ShloMosaic Idealize.SL.Sem

/-- Every claim of the certificate, with the side conditions its programs and its precondition state. -/
theorem claim : Cert.Claim :=
  ⟨Cert.Kernel.Gen.facts, Cert.KernelIdeal.Gen.facts, Cert.ReferenceIdeal.Gen.facts, Cert.Tame.kernel_facts, Cert.Tame.reference_facts,
    frame_kernel, frame_kernelIdeal, fun m g _ => frame_any (F := Ideal) m g, frame_reference, fun m g _ => frame_reference m g trivial, trivial,
    @algebraic Cert.Tame.kernel_facts⟩

end Cert.Proof

end
